-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_7) = v0 c
          ∧ r.2.mem ((c.tc : Thread Cert.ReferenceIdeal.nD Cert.ReferenceIdeal.τ).loc Cert.ReferenceIdeal.main_v6_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S512x32x1024 : Shape := ⟨3, ![512, 32, 1024]⟩
abbrev S32x128x128 : Shape := ⟨3, ![32, 128, 128]⟩
abbrev S128x1024 : Shape := ⟨2, ![128, 1024]⟩
abbrev S_ : Shape := ⟨0, ![]⟩

class Facts : Prop where
  bcast_S_S512x32x1024 : S_.BroadcastsInDim S512x32x1024 (![] : Fin 0 → Fin S512x32x1024.rank)
  bcast_S_S32x128x128 : S_.BroadcastsInDim S32x128x128 (![] : Fin 0 → Fin S32x128x128.rank)
  bcast_S_S128x1024 : S_.BroadcastsInDim S128x1024 (![] : Fin 0 → Fin S128x1024.rank)

variable [Facts]

def fn_part1 {F : FTy → Type} [FloatOps F] (main_arg6 : FVec F S128x1024 .f32) (main_v2 : IVec S512x32x1024 1) (main_v5 : IVec S32x128x128 1) (main_v8 : IVec S128x1024 1) (main_v11 : IVec S128x1024 1) (main_v14 : IVec S128x1024 1) (main_v17 : IVec S128x1024 1) : IVec S512x32x1024 1 × IVec S32x128x128 1 × IVec S128x1024 1 × IVec S128x1024 1 × IVec S128x1024 1 × IVec S128x1024 1 × IVec S128x1024 1 :=
  let main_v18 : FVec F S128x1024 .f32 := Host.absf main_arg6
  let main_cst_5 : FVec F S_ .f32 := constant S_ .f32 0x7F800000#32
  let main_v19 : FVec F S128x1024 .f32 := broadcastInDim S128x1024 ![] bcast_S_S128x1024 main_cst_5
  let main_v20 : IVec S128x1024 1 := cmpf .olt main_v18 main_v19
  (main_v2, main_v5, main_v8, main_v11, main_v14, main_v17, main_v20)

def fn {F : FTy → Type} [FloatOps F] (main_arg0 : FVec F S512x32x1024 .f32) (main_arg1 : FVec F S32x128x128 .f32) (main_arg2 : FVec F S128x1024 .f32) (main_arg3 : FVec F S128x1024 .f32) (main_arg4 : FVec F S128x1024 .f32) (main_arg5 : FVec F S128x1024 .f32) (main_arg6 : FVec F S128x1024 .f32) : IVec S512x32x1024 1 × IVec S32x128x128 1 × IVec S128x1024 1 × IVec S128x1024 1 × IVec S128x1024 1 × IVec S128x1024 1 × IVec S128x1024 1 :=
  let main_v0 : FVec F S512x32x1024 .f32 := Host.absf main_arg0
  let main_cst : FVec F S_ .f32 := constant S_ .f32 0x7F800000#32
  let main_v1 : FVec F S512x32x1024 .f32 := broadcastInDim S512x32x1024 ![] bcast_S_S512x32x1024 main_cst
  let main_v2 : IVec S512x32x1024 1 := cmpf .olt main_v0 main_v1
  let main_v3 : FVec F S32x128x128 .f32 := Host.absf main_arg1
  let main_cst_0 : FVec F S_ .f32 := constant S_ .f32 0x7F800000#32
  let main_v4 : FVec F S32x128x128 .f32 := broadcastInDim S32x128x128 ![] bcast_S_S32x128x128 main_cst_0
  let main_v5 : IVec S32x128x128 1 := cmpf .olt main_v3 main_v4
  let main_v6 : FVec F S128x1024 .f32 := Host.absf main_arg2
  let main_cst_1 : FVec F S_ .f32 := constant S_ .f32 0x7F800000#32
  let main_v7 : FVec F S128x1024 .f32 := broadcastInDim S128x1024 ![] bcast_S_S128x1024 main_cst_1
  let main_v8 : IVec S128x1024 1 := cmpf .olt main_v6 main_v7
  let main_v9 : FVec F S128x1024 .f32 := Host.absf main_arg3
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_v12 : FVec F S128x1024 .f32 := Host.absf main_arg4
  let main_cst_3 : FVec F S_ .f32 := constant S_ .f32 0x7F800000#32
  let main_v13 : FVec F S128x1024 .f32 := broadcastInDim S128x1024 ![] bcast_S_S128x1024 main_cst_3
  let main_v14 : IVec S128x1024 1 := cmpf .olt main_v12 main_v13
  let main_v15 : FVec F S128x1024 .f32 := Host.absf main_arg5
  let main_cst_4 : FVec F S_ .f32 := constant S_ .f32 0x7F800000#32
  let main_v16 : FVec F S128x1024 .f32 := broadcastInDim S128x1024 ![] bcast_S_S128x1024 main_cst_4
  let main_v17 : IVec S128x1024 1 := cmpf .olt main_v15 main_v16
  fn_part1 (F := F) main_arg6 main_v2 main_v5 main_v8 main_v11 main_v14 main_v17
-- ==== Kernel.lean ====
abbrev S512x32x1024 : Shape := ⟨3, ![512, 32, 1024]⟩
abbrev S32x128x128 : Shape := ⟨3, ![32, 128, 128]⟩
abbrev S128x1024 : Shape := ⟨2, ![128, 1024]⟩
abbrev S640x1024 : Shape := ⟨2, ![640, 1024]⟩
abbrev S1024x640 : Shape := ⟨2, ![1024, 640]⟩
abbrev S512x32x128 : Shape := ⟨3, ![512, 32, 128]⟩
abbrev S64x16x1024 : Shape := ⟨3, ![64, 16, 1024]⟩
abbrev S16x128x128 : Shape := ⟨3, ![16, 128, 128]⟩
abbrev S64x16x128 : Shape := ⟨3, ![64, 16, 128]⟩
abbrev S64x16x640 : Shape := ⟨3, ![64, 16, 640]⟩
abbrev S1024x1024 : Shape := ⟨2, ![1024, 1024]⟩
abbrev S1x16x640 : Shape := ⟨3, ![1, 16, 640]⟩
abbrev S16x640 : Shape := ⟨2, ![16, 640]⟩
abbrev S16x128 : Shape := ⟨2, ![16, 128]⟩
abbrev S16 : Shape := ⟨1, ![16]⟩
abbrev S16x1 : Shape := ⟨2, ![16, 1]⟩
abbrev S16x128x1 : Shape := ⟨3, ![16, 128, 1]⟩
abbrev S16x1x128 : Shape := ⟨3, ![16, 1, 128]⟩
abbrev S1x16x128 : Shape := ⟨3, ![1, 16, 128]⟩

abbrev nBuf : Space → Nat
  | .hbm => 13
  | .vmem => 11
  | .smem => 0
  | _ => 0

abbrev bufTy : (tb : Table) → Fin (tcTables nBuf tb) → BufTy
  | .hbm, ⟨0, _⟩ => ⟨S512x32x1024, .f32⟩
  | .hbm, ⟨1, _⟩ => ⟨S32x128x128, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S640x1024, .f32⟩
  | .hbm, ⟨8, _⟩ => ⟨S1024x640, .f32⟩
  | .hbm, ⟨9, _⟩ => ⟨S32x128x128, .f32⟩
  | .hbm, ⟨10, _⟩ => ⟨S512x32x128, .f32⟩
  | .hbm, ⟨11, _⟩ => ⟨S32x128x128, .f32⟩
  | .hbm, ⟨12, _⟩ => ⟨S32x128x128, .f32⟩
  | .local _ .vmem, ⟨0, _⟩ => ⟨S64x16x1024, .f32⟩
  | .local _ .vmem, ⟨1, _⟩ => ⟨S64x16x1024, .f32⟩
  | .local _ .vmem, ⟨2, _⟩ => ⟨S1024x640, .f32⟩
  | .local _ .vmem, ⟨3, _⟩ => ⟨S16x128x128, .f32⟩
  | .local _ .vmem, ⟨4, _⟩ => ⟨S16x128x128, .f32⟩
  | .local _ .vmem, ⟨5, _⟩ => ⟨S64x16x128, .f32⟩
  | .local _ .vmem, ⟨6, _⟩ => ⟨S64x16x128, .f32⟩
  | .local _ .vmem, ⟨7, _⟩ => ⟨S16x128x128, .f32⟩
  | .local _ .vmem, ⟨8, _⟩ => ⟨S16x128x128, .f32⟩
  | .local _ .vmem, ⟨9, _⟩ => ⟨S16x128x128, .f32⟩
  | .local _ .vmem, ⟨10, _⟩ => ⟨S64x16x640, .f32⟩
  | _, _ => ⟨S512x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_8 : BitVec 32 := 0#32
  let c8_i32 : BitVec 32 := 8#32
  let v12 : BitVec 32 := Scalar.addi c0_i32_8 c8_i32
  let c1_i32 : BitVec 32 := 1#32
  ⟨c0_i32_8, v12, c1_i32⟩
def k0_off1 (k0_t1 : Fin k0_t1_loop.trips) (c0_i32_15 : BitVec 32) : Fin 3 → Nat :=
  let c8_i32_11 : BitVec 32 := 8#32
  let c0_i32_8 : BitVec 32 := 0#32
  let c1_i32 : BitVec 32 := 1#32
  let arg9 : BitVec 32 := Scf.iv c0_i32_8 c1_i32 k0_t1
  let v16 : BitVec 32 := Scalar.muli c8_i32_11 arg9
  let v18 : BitVec 32 := Scalar.addi v16 c0_i32_15
  let v19 : Index := Scalar.indexCast v18
  let c0_16 : Index := 0#32
  let c0_17 : Index := 0#32
  ![v19.toNat, 0, 0]
def k0_off2 (k0_t1 : Fin k0_t1_loop.trips) (c0_i32_21 : BitVec 32) : Fin 3 → Nat :=
  let c8_i32_11 : BitVec 32 := 8#32
  let c0_i32_8 : BitVec 32 := 0#32
  let c1_i32 : BitVec 32 := 1#32
  let arg9 : BitVec 32 := Scf.iv c0_i32_8 c1_i32 k0_t1
  let v16 : BitVec 32 := Scalar.muli c8_i32_11 arg9
  let v53 : BitVec 32 := Scalar.addi v16 c0_i32_21
  let v54 : Index := Scalar.indexCast v53
  let c0_22 : Index := 0#32
  let c0_23 : Index := 0#32
  ![v54.toNat, 0, 0]
def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S512x32x1024 : Shape := ⟨3, ![512, 32, 1024]⟩
abbrev S32x128x128 : Shape := ⟨3, ![32, 128, 128]⟩
abbrev S128x1024 : Shape := ⟨2, ![128, 1024]⟩
abbrev S512x32x128 : Shape := ⟨3, ![512, 32, 128]⟩
abbrev S_ : Shape := ⟨0, ![]⟩
abbrev S1x32x128 : Shape := ⟨3, ![1, 32, 128]⟩
abbrev S32x128 : Shape := ⟨2, ![32, 128]⟩
abbrev S32 : Shape := ⟨1, ![32]⟩
abbrev S32x1 : Shape := ⟨2, ![32, 1]⟩
abbrev S32x128x1 : Shape := ⟨3, ![32, 128, 1]⟩
abbrev S32x1x128 : Shape := ⟨3, ![32, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S512x32x1024, .f32⟩
  | .hbm, ⟨1, _⟩ => ⟨S32x128x128, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S512x32x128, .f32⟩
  | .hbm, ⟨8, _⟩ => ⟨S512x32x128, .f32⟩
  | .hbm, ⟨9, _⟩ => ⟨S512x32x128, .f32⟩
  | .hbm, ⟨10, _⟩ => ⟨S512x32x128, .f32⟩
  | .hbm, ⟨11, _⟩ => ⟨S512x32x128, .f32⟩
  | .hbm, ⟨12, _⟩ => ⟨S_, .f32⟩
  | .hbm, ⟨13, _⟩ => ⟨S512x32x128, .f32⟩
  | .hbm, ⟨14, _⟩ => ⟨S_, .i32⟩
  | .hbm, ⟨15, _⟩ => ⟨S512x32x128, .f32⟩
  | .hbm, ⟨16, _⟩ => ⟨S512x32x128, .f32⟩
  | .hbm, ⟨17, _⟩ => ⟨S512x32x128, .f32⟩
  | .hbm, ⟨18, _⟩ => ⟨S512x32x128, .f32⟩
  | .hbm, ⟨19, _⟩ => ⟨S512x32x128, .f32⟩
  | .hbm, ⟨20, _⟩ => ⟨S_, .i32⟩
  | .hbm, ⟨21, _⟩ => ⟨S32x128x128, .f32⟩
  | .hbm, ⟨22, _⟩ => ⟨S512x32x128, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S1x32x128, .f32⟩
  | .hbm, ⟨28, _⟩ => ⟨S32x128, .f32⟩
  | .hbm, ⟨29, _⟩ => ⟨S_, .i32⟩
  | .hbm, ⟨30, _⟩ => ⟨S_, .i32⟩
  | .hbm, ⟨31, _⟩ => ⟨S1x32x128, .f32⟩
  | .hbm, ⟨32, _⟩ => ⟨S32x128, .f32⟩
  | .hbm, ⟨33, _⟩ => ⟨S_, .i32⟩
  | .hbm, ⟨34, _⟩ => ⟨S_, .i32⟩
  | .hbm, ⟨35, _⟩ => ⟨S1x32x128, .f32⟩
  | .hbm, ⟨36, _⟩ => ⟨S32x128, .f32⟩
  | .hbm, ⟨37, _⟩ => ⟨S_, .i32⟩
  | .hbm, ⟨38, _⟩ => ⟨S_, .i32⟩
  | .hbm, ⟨39, _⟩ => ⟨S1x32x128, .f32⟩
  | .hbm, ⟨40, _⟩ => ⟨S32x128, .f32⟩
  | .hbm, ⟨41, _⟩ => ⟨S_, .i32⟩
  | .hbm, ⟨42, _⟩ => ⟨S_, .i32⟩
  | .hbm, ⟨43, _⟩ => ⟨S1x32x128, .f32⟩
  | .hbm, ⟨44, _⟩ => ⟨S32x128, .f32⟩
  | .hbm, ⟨45, _⟩ => ⟨S32x128, .f32⟩
  | .hbm, ⟨46, _⟩ => ⟨S_, .f32⟩
  | .hbm, ⟨47, _⟩ => ⟨S32, .f32⟩
  | .hbm, ⟨48, _⟩ => ⟨S32x1, .f32⟩
  | .hbm, ⟨49, _⟩ => ⟨S32x1, .f32⟩
  | .hbm, ⟨50, _⟩ => ⟨S_, .f32⟩
  | .hbm, ⟨51, _⟩ => ⟨S32x1, .f32⟩
  | .hbm, ⟨52, _⟩ => ⟨S32x1, .f32⟩
  | .hbm, ⟨53, _⟩ => ⟨S32x128, .f32⟩
  | .hbm, ⟨54, _⟩ => ⟨S32x128, .f32⟩
  | .hbm, ⟨55, _⟩ => ⟨S32x128x1, .f32⟩
  | .hbm, ⟨56, _⟩ => ⟨S32x1x128, .f32⟩
  | .hbm, ⟨57, _⟩ => ⟨S32x128x128, .f32⟩
  | .hbm, ⟨58, _⟩ => ⟨S32x128x128, .f32⟩
  | .hbm, ⟨59, _⟩ => ⟨S32x128x128, .f32⟩
  | .hbm, ⟨60, _⟩ => ⟨S32x128, .f32⟩
  | .hbm, ⟨61, _⟩ => ⟨S32x128x1, .f32⟩
  | .hbm, ⟨62, _⟩ => ⟨S32x1x128, .f32⟩
  | .hbm, ⟨63, _⟩ => ⟨S32x128x128, .f32⟩
  | .hbm, ⟨64, _⟩ => ⟨S32x128x128, .f32⟩
  | .hbm, ⟨65, _⟩ => ⟨S32x128x128, .f32⟩
  | .hbm, ⟨66, _⟩ => ⟨S_, .f32⟩
  | .hbm, ⟨67, _⟩ => ⟨S32x128x128, .f32⟩
  | .hbm, ⟨68, _⟩ => ⟨S32x128x128, .f32⟩
  | .hbm, ⟨69, _⟩ => ⟨S32x128x128, .f32⟩
  | .hbm, ⟨70, _⟩ => ⟨S32x128x128, .f32⟩
  | .hbm, ⟨71, _⟩ => ⟨S32x128x128, .f32⟩
  | .hbm, ⟨72, _⟩ => ⟨S32x128, .f32⟩
  | .hbm, ⟨73, _⟩ => ⟨S32x128, .f32⟩
  | .hbm, ⟨74, _⟩ => ⟨S32x128, .f32⟩
  | .hbm, ⟨75, _⟩ => ⟨S_, .f32⟩
  | .hbm, ⟨76, _⟩ => ⟨S32x128, .f32⟩
  | .hbm, ⟨77, _⟩ => ⟨S32x128, .f32⟩
  | .hbm, ⟨78, _⟩ => ⟨S_, .f32⟩
  | .hbm, ⟨79, _⟩ => ⟨S32x128, .f32⟩
  | .hbm, ⟨80, _⟩ => ⟨S32x128, .f32⟩
  | .hbm, ⟨81, _⟩ => ⟨S32x128, .f32⟩
  | .hbm, ⟨82, _⟩ => ⟨S32x128, .f32⟩
  | .hbm, ⟨83, _⟩ => ⟨S1x32x128, .f32⟩
  | .hbm, ⟨84, _⟩ => ⟨S_, .i32⟩
  | .hbm, ⟨85, _⟩ => ⟨S_, .i32⟩
  | .hbm, ⟨86, _⟩ => ⟨S512x32x128, .f32⟩
  | .hbm, ⟨87, _⟩ => ⟨S_, .i32⟩
  | .hbm, ⟨88, _⟩ => ⟨S_, .i32⟩
  | _, _ => ⟨S512x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_v6_7 : Ref sig .tc := ⟨.hbm, 22, rfl⟩
abbrev main_while0c_c_7 : Ref sig .tc := ⟨.hbm, 23, rfl⟩
abbrev main_while0c_v7 : Ref sig .tc := ⟨.hbm, 24, rfl⟩
abbrev main_while0b_call0_c : Ref sig .tc := ⟨.hbm, 25, rfl⟩
abbrev main_while0b_call0_c_0 : Ref sig .tc := ⟨.hbm, 26, rfl⟩
abbrev main_while0b_call0_v0 : Ref sig .tc := ⟨.hbm, 27, rfl⟩
abbrev main_while0b_v7 : Ref sig .tc := ⟨.hbm, 28, rfl⟩
abbrev main_while0b_call1_c : Ref sig .tc := ⟨.hbm, 29, rfl⟩
abbrev main_while0b_call1_c_0 : Ref sig .tc := ⟨.hbm, 30, rfl⟩
abbrev main_while0b_call1_v0 : Ref sig .tc := ⟨.hbm, 31, rfl⟩
abbrev main_while0b_v8 : Ref sig .tc := ⟨.hbm, 32, rfl⟩
abbrev main_while0b_call2_c : Ref sig .tc := ⟨.hbm, 33, rfl⟩
abbrev main_while0b_call2_c_0 : Ref sig .tc := ⟨.hbm, 34, rfl⟩
abbrev main_while0b_call2_v0 : Ref sig .tc := ⟨.hbm, 35, rfl⟩
abbrev main_while0b_v9 : Ref sig .tc := ⟨.hbm, 36, rfl⟩
abbrev main_while0b_call3_c : Ref sig .tc := ⟨.hbm, 37, rfl⟩
abbrev main_while0b_call3_c_0 : Ref sig .tc := ⟨.hbm, 38, rfl⟩
abbrev main_while0b_call3_v0 : Ref sig .tc := ⟨.hbm, 39, rfl⟩
abbrev main_while0b_v10 : Ref sig .tc := ⟨.hbm, 40, rfl⟩
abbrev main_while0b_call4_c : Ref sig .tc := ⟨.hbm, 41, rfl⟩
abbrev main_while0b_call4_c_0 : Ref sig .tc := ⟨.hbm, 42, rfl⟩
abbrev main_while0b_call4_v0 : Ref sig .tc := ⟨.hbm, 43, rfl⟩
abbrev main_while0b_v11 : Ref sig .tc := ⟨.hbm, 44, rfl⟩
abbrev main_while0b_call5_v0 : Ref sig .tc := ⟨.hbm, 45, rfl⟩
abbrev main_while0b_call5_cst : Ref sig .tc := ⟨.hbm, 46, rfl⟩
abbrev main_while0b_call5_v1 : Ref sig .tc := ⟨.hbm, 47, rfl⟩
abbrev main_while0b_call5_v2 : Ref sig .tc := ⟨.hbm, 48, rfl⟩
abbrev main_while0b_v12 : Ref sig .tc := ⟨.hbm, 49, rfl⟩
abbrev main_while0b_cst_7 : Ref sig .tc := ⟨.hbm, 50, rfl⟩
abbrev main_while0b_v13 : Ref sig .tc := ⟨.hbm, 51, rfl⟩
abbrev main_while0b_v14 : Ref sig .tc := ⟨.hbm, 52, rfl⟩
abbrev main_while0b_v15 : Ref sig .tc := ⟨.hbm, 53, rfl⟩
abbrev main_while0b_v16 : Ref sig .tc := ⟨.hbm, 54, rfl⟩
abbrev main_while0b_v17 : Ref sig .tc := ⟨.hbm, 55, rfl⟩
abbrev main_while0b_v18 : Ref sig .tc := ⟨.hbm, 56, rfl⟩
abbrev main_while0b_v19 : Ref sig .tc := ⟨.hbm, 57, rfl⟩
abbrev main_while0b_v20 : Ref sig .tc := ⟨.hbm, 58, rfl⟩
abbrev main_while0b_v21 : Ref sig .tc := ⟨.hbm, 59, rfl⟩
abbrev main_while0b_v22 : Ref sig .tc := ⟨.hbm, 60, rfl⟩
abbrev main_while0b_v23 : Ref sig .tc := ⟨.hbm, 61, rfl⟩
abbrev main_while0b_v24 : Ref sig .tc := ⟨.hbm, 62, rfl⟩
abbrev main_while0b_v25 : Ref sig .tc := ⟨.hbm, 63, rfl⟩
abbrev main_while0b_v26 : Ref sig .tc := ⟨.hbm, 64, rfl⟩
abbrev main_while0b_v27 : Ref sig .tc := ⟨.hbm, 65, rfl⟩
abbrev main_while0b_cst_8 : Ref sig .tc := ⟨.hbm, 66, rfl⟩
abbrev main_while0b_v28 : Ref sig .tc := ⟨.hbm, 67, rfl⟩
abbrev main_while0b_v29 : Ref sig .tc := ⟨.hbm, 68, rfl⟩
abbrev main_while0b_v30 : Ref sig .tc := ⟨.hbm, 69, rfl⟩
abbrev main_while0b_v31 : Ref sig .tc := ⟨.hbm, 70, rfl⟩
abbrev main_while0b_v32 : Ref sig .tc := ⟨.hbm, 71, rfl⟩
abbrev main_while0b_v33 : Ref sig .tc := ⟨.hbm, 72, rfl⟩
abbrev main_while0b_call6_v0 : Ref sig .tc := ⟨.hbm, 73, rfl⟩
abbrev main_while0b_call6_v1 : Ref sig .tc := ⟨.hbm, 74, rfl⟩
abbrev main_while0b_call6_cst : Ref sig .tc := ⟨.hbm, 75, rfl⟩
abbrev main_while0b_call6_v2 : Ref sig .tc := ⟨.hbm, 76, rfl⟩
abbrev main_while0b_call6_v3 : Ref sig .tc := ⟨.hbm, 77, rfl⟩
abbrev main_while0b_call6_cst_0 : Ref sig .tc := ⟨.hbm, 78, rfl⟩
abbrev main_while0b_call6_v4 : Ref sig .tc := ⟨.hbm, 79, rfl⟩
abbrev main_while0b_call6_v5 : Ref sig .tc := ⟨.hbm, 80, rfl⟩
abbrev main_while0b_v34 : Ref sig .tc := ⟨.hbm, 81, rfl⟩
abbrev main_while0b_v35 : Ref sig .tc := ⟨.hbm, 82, rfl⟩
abbrev main_while0b_call7_v0 : Ref sig .tc := ⟨.hbm, 83, rfl⟩
abbrev main_while0b_call7_c : Ref sig .tc := ⟨.hbm, 84, rfl⟩
abbrev main_while0b_call7_c_0 : Ref sig .tc := ⟨.hbm, 85, rfl⟩
abbrev main_while0b_v36 : Ref sig .tc := ⟨.hbm, 86, rfl⟩
abbrev main_while0b_c_9 : Ref sig .tc := ⟨.hbm, 87, rfl⟩
abbrev main_while0b_v37 : Ref sig .tc := ⟨.hbm, 88, rfl⟩

abbrev nD : Nat := 1
abbrev τ : Topo := Topo.v7x

variable {F : FTy → Type} [FloatOps F]

abbrev main_while0_count : Scf.Loop 32 := ⟨0#32, 512#32, 1#32⟩
-- ==== Proof.KernelIdeal.Runs.lean ====
/- Launch set-up for the frame: the host lines around the region, the windows' blocks, where the conditions of the body hold. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- At the points of case A the printed configuration (`Cfg.idle`) calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cfg0.idle 4 (grid0.coords t) = false := by decide +kernel

/-! ## The kernel body on any staging memrefs: a subtype the run finds -/

/-- One staging buffer of output window 3, through which its contents are stated (`View.read_writes_of_cover`: the
    choice does not matter). -/
abbrev VO0_3 : View sig .tc .vmem S64x16x128 .f32 := (Memref.whole cc0_stg3_0 : Memref sig .tc .vmem S64x16x128 .f32).view
/-- One staging buffer of output window 4, through which its contents are stated (`View.read_writes_of_cover`: the
    choice does not matter). -/
abbrev VO0_4 : View sig .tc .vmem S16x128x128 .f32 := (Memref.whole cc0_stg4_0 : Memref sig .tc .vmem S16x128x128 .f32).view
/-- Each window's current staging memref at point `t`, spelled as the pipeline passes it (`bodyAt0`), and its wholeness. -/
abbrev ms0_0 (t : Fin cfg0.N) : Memref sig .tc .vmem S64x16x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128x128 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S16x128x128 .f32 := Memref.whole cc0_scratch0
abbrev scM0_1 : Memref sig .tc .vmem S64x16x640 .f32 := Memref.whole cc0_scratch1
/-- The scratch `arg7` the kernel carries between points, as a view: what it holds is stated through it. -/
abbrev VS0_0 : View sig .tc .vmem S16x128x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Own

end
-- ==== Proof.KernelIdeal.Step.lean ====
/-
  What the kernel body computes, as plain recursions over its own payloads, at any float carrier: the row of projections
  of one time step (`rowP`), one state update and one output row (the payloads `k0_pay4`, `k0_pay5`), the state after `n`
  steps of a block (`stAt`) and the block of outputs (`outBlk`). The eight unrolled copies of the step in the printed
  loop are the same two payloads, cut differently (`step_1`…).
-/
module

public import proofs.«01_k».proof.Proof.Gen.KernelIdeal.Skeleton
public import Idealize.ShloMosaic.Lib.ValueIdxCore
public import Idealize.ShloMosaic.Lib.Pipeline.Value

@[expose] public section

set_option maxRecDepth 16384

noncomputable section

namespace Cert.KernelIdeal.Own

open Cert.KernelIdeal.Gen
open Idealize.ShloMosaic Idealize.ShloMosaic.TcCoe
open Idealize.ShloMosaic.ValueIdx (ix3)

variable {F : FTy → Type} [FloatOps F]

/-- Row `n` of a block of projections, as the body loads it. -/
def rowP (P : Vec F S64x16x640 .f32) (n : ℕ) : Vec F S1x16x640 .f32 :=
  fun y => P (ix3 (⟨n % 64, Nat.mod_lt _ (by decide)⟩ : Fin 64) (y 1) (y 2))

/-- The state of a block after its first `n` time steps, from the state `s` it starts at. -/
def stAt (P : Vec F S64x16x640 .f32) (s : Vec F S16x128x128 .f32) : ℕ → Vec F S16x128x128 .f32
  | 0 => s
  | n + 1 => k0_pay4 (stAt P s n) (rowP P n)

/-- The output row of time step `n`. -/
def outAt (P : Vec F S64x16x640 .f32) (s : Vec F S16x128x128 .f32) (n : ℕ) : Vec F S1x16x128 .f32 :=
  k0_pay5 (stAt P s n) (rowP P n)

/-- The block of output rows. -/
def outBlk (P : Vec F S64x16x640 .f32) (s : Vec F S16x128x128 .f32) : Vec F S64x16x128 .f32 :=
  fun y => outAt P s (y 0).val (ix3 (0 : Fin 1) (y 1) (y 2))

/-! ### The unrolled steps are the first one -/

theorem step_1 (st : Vec F S16x128x128 .f32) (r : Vec F S1x16x640 .f32) : k0_pay7 st r = k0_pay4 st r := rfl
theorem row_1 (st : Vec F S16x128x128 .f32) (r : Vec F S1x16x640 .f32) : k0_pay8 st r = k0_pay5 st r := rfl
theorem step_2 (st : Vec F S16x128x128 .f32) (r : Vec F S1x16x640 .f32) :
    k0_pay16 st (k0_pay10 r) (k0_pay11 r) (k0_pay13 r) (k0_pay14 r) (k0_pay15 r) = k0_pay4 st r := rfl
theorem row_2 (st : Vec F S16x128x128 .f32) (r : Vec F S1x16x640 .f32) :
    k0_pay17 st (k0_pay10 r) (k0_pay11 r) (k0_pay12 r) (k0_pay13 r) (k0_pay14 r) (k0_pay15 r) = k0_pay5 st r := rfl
theorem step_3 (st : Vec F S16x128x128 .f32) (r : Vec F S1x16x640 .f32) :
    k0_pay24 st (k0_pay19 r) (k0_pay21 r) (k0_pay22 r) (k0_pay23 r) = k0_pay4 st r := rfl
theorem row_3 (st : Vec F S16x128x128 .f32) (r : Vec F S1x16x640 .f32) :
    k0_pay25 st (k0_pay19 r) (k0_pay20 r) (k0_pay21 r) (k0_pay22 r) (k0_pay23 r) = k0_pay5 st r := rfl
theorem step_4 (st : Vec F S16x128x128 .f32) (q r : Vec F S1x16x640 .f32) :
    k0_pay29 (k0_pay28 st (k0_pay19 q) (k0_pay21 q) (k0_pay22 q) (k0_pay23 q) r) = k0_pay4 (k0_pay4 st q) r := rfl
theorem row_4 (st : Vec F S16x128x128 .f32) (q r : Vec F S1x16x640 .f32) :
    k0_pay30 (k0_pay27 r) (k0_pay28 st (k0_pay19 q) (k0_pay21 q) (k0_pay22 q) (k0_pay23 q) r) = k0_pay5 (k0_pay4 st q) r := rfl
theorem step_5 (x : FVec F S16x128x128 .f32) (r : Vec F S1x16x640 .f32) :
    k0_pay32 x r = k0_pay4 (k0_pay29 x) r := rfl
theorem row_5 (x : FVec F S16x128x128 .f32) (r : Vec F S1x16x640 .f32) :
    k0_pay34 (k0_pay33 x r) = k0_pay5 (k0_pay29 x) r := rfl
theorem step_6 (st : Vec F S16x128x128 .f32) (r : Vec F S1x16x640 .f32) : k0_pay36 st r = k0_pay4 st r := rfl
theorem row_6 (st : Vec F S16x128x128 .f32) (r : Vec F S1x16x640 .f32) : k0_pay37 st r = k0_pay5 st r := rfl
theorem row_7 (st : Vec F S16x128x128 .f32) (r : Vec F S1x16x640 .f32) : k0_pay40 st r = k0_pay5 st r := rfl
theorem step_7 (st : Vec F S16x128x128 .f32) (r : Vec F S1x16x640 .f32) :
    k0_pay41 st r = k0_pay4 st r :=
  shapeCast_self _ _
/-- The state a block starts at is stored as it was loaded. -/
theorem pay_start (s : Vec F S16x128x128 .f32) : k0_pay1 s = s :=
  (shapeCast_self _ _).trans (shapeCast_self _ _)

end Cert.KernelIdeal.Own
-- ==== Proof.KernelIdeal.Trip.lean ====
/-
  One trip of the kernel's time loop: eight steps of the recursion in Step.lean. It finds the state after `8 k` steps in
  the carried scratch, leaves the state after `8 k + 8` there, and writes the eight output rows `8 k, …, 8 k + 7`.
-/
module

public import proofs.«01_k».proof.Proof.KernelIdeal.Step
public import Idealize.ShloMosaic.Lib.Pipeline.FrameBody
public import Idealize.ShloMosaic.Lib.WholeRead
public import Idealize.ShloMosaic.Lib.WritesUnit
public import Idealize.ShloMosaic.Lib.Exec
public import Idealize.ShloMosaic.Lib.Tactic

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3)

variable {F : FTy → Type} [FloatOps F]

local notation "𝕄" => MT nD τ sig Unit (Elt F) ℕ (UR sig nD τ) ℕ

/-- The row a load at offsets `(8 k + r, 0, 0)` reads. -/
theorem load_row (arg8 : Memref sig .tc .vmem S64x16x640 .f32) (harg8 : arg8.IsWhole) (P : Vec F S64x16x640 .f32)
    (k r : ℕ) (hk : k < 8) (hr : r < 8) (off : Fin 3 → ℕ) (he : off = ![8 * k + r, 0, 0])
    (inb : ∀ a, off a + S1x16x640.size a ≤ S64x16x640.size a) :
    View.readAt (Elt F) arg8.view (Rect.unit (s := S64x16x640) off S1x16x640.size inb).toLoadRect (harg8.unread P)
      = rowP P (8 * k + r) := by
  subst he
  funext y
  rw [Memref.IsWhole.readAt_unread]
  unfold rowP
  refine congrArg P (funext fun a => Fin.ext ?_)
  have h0 : (y 0).val = 0 := Nat.lt_one_iff.mp (y 0).isLt
  match a with
  | ⟨0, _⟩ =>
    show (8 * k + r) + 1 * (y 0).val = (8 * k + r) % 64
    rw [h0]; omega
  | ⟨1, _⟩ => show 0 + 1 * (y 1).val = (y 1).val; omega
  | ⟨2, _⟩ => show 0 + 1 * (y 2).val = (y 2).val; omega

/-- The whole-buffer load of the carried state. -/
theorem load_state (arg7 : Memref sig .tc .vmem S16x128x128 .f32) (harg7 : arg7.IsWhole) (s : Vec F S16x128x128 .f32)
    (inb : ∀ a, (![0, 0, 0] : Fin 3 → ℕ) a + S16x128x128.size a ≤ S16x128x128.size a) :
    View.readAt (Elt F) arg7.view (Rect.unit (s := S16x128x128) ![0, 0, 0] S16x128x128.size inb).toLoadRect (harg7.unread s)
      = s := by
  funext y
  rw [Memref.IsWhole.readAt_unread]
  refine congrArg s (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A whole-buffer store leaves the buffer holding what was stored. -/
theorem store_whole (arg7 : Memref sig .tc .vmem S16x128x128 .f32) (harg7 : arg7.IsWhole)
    (f : BufTy.Contents (Elt F) arg7.view.ty) (L : List (View.Piece (Elt F) S16x128x128 .f32)) (s : Vec F S16x128x128 .f32)
    (inb : ∀ a, (![0, 0, 0] : Fin 3 → ℕ) a + S16x128x128.size a ≤ S16x128x128.size a) :
    arg7.view.writes (Elt F) f (⟨Rect.unit (s := S16x128x128) ![0, 0, 0] S16x128x128.size inb, s⟩ :: L) = harg7.unread s := by
  refine harg7.eq_unread (funext fun y => ?_)
  refine View.read_writes_cons_unit_of_mem (s := S16x128x128) arg7.view f inb s L y y rfl fun a => ?_
  match a with
  | ⟨0, _⟩ => show (y 0).val = 0 + (y 0).val; omega
  | ⟨1, _⟩ => show (y 1).val = 0 + (y 1).val; omega
  | ⟨2, _⟩ => show (y 2).val = 0 + (y 2).val; omega

/-- What the output block reads once a row has been stored at offsets `(n, 0, 0)`. -/
theorem read_row (arg5 : Memref sig .tc .vmem S64x16x128 .f32) (f : BufTy.Contents (Elt F) arg5.view.ty)
    (L : List (View.Piece (Elt F) S64x16x128 .f32)) (w : Vec F S1x16x128 .f32) (n : ℕ) (off : Fin 3 → ℕ)
    (he : off = ![n, 0, 0]) (inb : ∀ a, off a + S1x16x128.size a ≤ S64x16x128.size a) (y : S64x16x128.Idx) :
    arg5.view.read (Elt F) (arg5.view.writes (Elt F) f (⟨Rect.unit (s := S64x16x128) off S1x16x128.size inb, w⟩ :: L)) y
      = if (y 0).val = n then w (ix3 (0 : Fin 1) (y 1) (y 2)) else arg5.view.read (Elt F) (arg5.view.writes (Elt F) f L) y := by
  split
  · rename_i h
    refine View.read_writes_cons_unit_of_mem (s := S64x16x128) arg5.view f inb w L y (ix3 (0 : Fin 1) (y 1) (y 2)) he fun a => ?_
    match a with
    | ⟨0, _⟩ => show (y 0).val = n + 0; omega
    | ⟨1, _⟩ => show (y 1).val = 0 + (y 1).val; omega
    | ⟨2, _⟩ => show (y 2).val = 0 + (y 2).val; omega
  · rename_i h
    refine View.read_writes_cons_unit_of_not_mem (s := S64x16x128) arg5.view f inb w L y he 0 ?_
    show (y 0).val < n ∨ n + 1 ≤ (y 0).val
    omega

/-- The eight pieces a trip stores into the output block, last first. -/
def rows8 (P : Vec F S64x16x640 .f32) (s : Vec F S16x128x128 .f32) (k : Fin k0_t1_loop.trips) :
    List (View.Piece (Elt F) S64x16x128 .f32) :=
  [⟨Rect.unit (s := S64x16x128) (k0_off2 k 7#32) S1x16x128.size (k0_off2_inb k 7), outAt P s (8 * k.val + 7)⟩,
   ⟨Rect.unit (s := S64x16x128) (k0_off2 k 6#32) S1x16x128.size (k0_off2_inb k 6), outAt P s (8 * k.val + 6)⟩,
   ⟨Rect.unit (s := S64x16x128) (k0_off2 k 5#32) S1x16x128.size (k0_off2_inb k 5), outAt P s (8 * k.val + 5)⟩,
   ⟨Rect.unit (s := S64x16x128) (k0_off2 k 4#32) S1x16x128.size (k0_off2_inb k 4), outAt P s (8 * k.val + 4)⟩,
   ⟨Rect.unit (s := S64x16x128) (k0_off2 k 3#32) S1x16x128.size (k0_off2_inb k 3), outAt P s (8 * k.val + 3)⟩,
   ⟨Rect.unit (s := S64x16x128) (k0_off2 k 2#32) S1x16x128.size (k0_off2_inb k 2), outAt P s (8 * k.val + 2)⟩,
   ⟨Rect.unit (s := S64x16x128) (k0_off2 k 1#32) S1x16x128.size (k0_off2_inb k 1), outAt P s (8 * k.val + 1)⟩,
   ⟨Rect.unit (s := S64x16x128) (k0_off2 k 0#32) S1x16x128.size (k0_off2_inb k 0), outAt P s (8 * k.val + 0)⟩]

/-- What the output block reads after a trip: rows `8 k, …, 8 k + 7` hold the outputs of those steps. -/
theorem read_rows8 (arg5 : Memref sig .tc .vmem S64x16x128 .f32) (f : BufTy.Contents (Elt F) arg5.view.ty)
    (P : Vec F S64x16x640 .f32) (s : Vec F S16x128x128 .f32) (k : Fin k0_t1_loop.trips) (y : S64x16x128.Idx) :
    arg5.view.read (Elt F) (arg5.view.writes (Elt F) f (rows8 P s k)) y
      = if 8 * k.val ≤ (y 0).val ∧ (y 0).val < 8 * k.val + 8 then outBlk P s y else arg5.view.read (Elt F) f y := by
  unfold rows8
  rw [read_row arg5 f _ _ _ _ (show k0_off2 k 7#32 = ![8 * k.val + 7, 0, 0] from k0_off2_eq k 7), read_row arg5 f _ _ _ _ (show k0_off2 k 6#32 = ![8 * k.val + 6, 0, 0] from k0_off2_eq k 6),
    read_row arg5 f _ _ _ _ (show k0_off2 k 5#32 = ![8 * k.val + 5, 0, 0] from k0_off2_eq k 5), read_row arg5 f _ _ _ _ (show k0_off2 k 4#32 = ![8 * k.val + 4, 0, 0] from k0_off2_eq k 4),
    read_row arg5 f _ _ _ _ (show k0_off2 k 3#32 = ![8 * k.val + 3, 0, 0] from k0_off2_eq k 3), read_row arg5 f _ _ _ _ (show k0_off2 k 2#32 = ![8 * k.val + 2, 0, 0] from k0_off2_eq k 2),
    read_row arg5 f _ _ _ _ (show k0_off2 k 1#32 = ![8 * k.val + 1, 0, 0] from k0_off2_eq k 1), read_row arg5 f _ _ _ _ (show k0_off2 k 0#32 = ![8 * k.val + 0, 0, 0] from k0_off2_eq k 0)]
  show _ = if _ then outAt P s (y 0).val (ix3 (0 : Fin 1) (y 1) (y 2)) else _
  generalize (y 0).val = n
  generalize k.val = k
  split_ifs <;> first | omega | (subst_vars; rfl) | rfl

/-- One trip of the time loop. -/
theorem trip (𝒱 : Variants) (c : Dev nD) (bd : Option 𝒱.V) (i : grid0.Coords) (arg2 : Memref sig .tc .vmem S64x16x1024 .f32) (harg2 : arg2.IsWhole) (arg3 : Memref sig .tc .vmem S1024x640 .f32) (harg3 : arg3.IsWhole) (arg4 : Memref sig .tc .vmem S16x128x128 .f32) (harg4 : arg4.IsWhole) (arg5 : Memref sig .tc .vmem S64x16x128 .f32) (harg5 : arg5.IsWhole) (arg6 : Memref sig .tc .vmem S16x128x128 .f32) (harg6 : arg6.IsWhole) (arg7 : Memref sig .tc .vmem S16x128x128 .f32) (harg7 : arg7.IsWhole) (arg8 : Memref sig .tc .vmem S64x16x640 .f32) (harg8 : arg8.IsWhole) (k : Fin k0_t1_loop.trips)
   (P : Vec F S64x16x640 .f32) (s : Vec F S16x128x128 .f32) (E : Set ℕ) (f5 : BufTy.Contents (Elt F) arg5.view.ty) :
   iprop((arg8.view.loc (c : Thread nD τ) ↦[arg8.view.set]{fullShare} harg8.unread P) ∗ (arg5.view.loc (c : Thread nD τ) ↦[arg5.view.set]{fullShare} f5) ∗ (arg7.view.loc (c : Thread nD τ) ↦[arg7.view.set]{fullShare} harg7.unread (stAt P s (8 * k.val))) : sProp 𝕄)
      ⊢ wp frame (wpE (defs₀ (F := F)) 𝒱 (c : Thread nD τ) bd) E (k0_t1_body (F := F) i arg2 harg2 arg3 harg3 arg4 harg4 arg5 harg5 arg6 harg6 arg7 harg7 arg8 harg8 k PUnit.unit)
          (fun _ => iprop((arg8.view.loc (c : Thread nD τ) ↦[arg8.view.set]{fullShare} harg8.unread P) ∗ (arg5.view.loc (c : Thread nD τ) ↦[arg5.view.set]{fullShare} arg5.view.writes (Elt F) f5 (rows8 P s k)) ∗ (arg7.view.loc (c : Thread nD τ) ↦[arg7.view.set]{fullShare} harg7.unread (stAt P s (8 * k.val + 8))))) := by
  have hk : k.val < 8 := Nat.lt_of_lt_of_le k.isLt k0_t1_abs.2.1
  have l0 := load_row arg8 harg8 P k.val 0 hk (by decide) (k0_off1 k 0#32) (k0_off1_eq k 0) (k0_off1_inb k 0)
  have l1 := load_row arg8 harg8 P k.val 1 hk (by decide) (k0_off1 k 1#32) (k0_off1_eq k 1) (k0_off1_inb k 1)
  have l2 := load_row arg8 harg8 P k.val 2 hk (by decide) (k0_off1 k 2#32) (k0_off1_eq k 2) (k0_off1_inb k 2)
  have l3 := load_row arg8 harg8 P k.val 3 hk (by decide) (k0_off1 k 3#32) (k0_off1_eq k 3) (k0_off1_inb k 3)
  have l4 := load_row arg8 harg8 P k.val 4 hk (by decide) (k0_off1 k 4#32) (k0_off1_eq k 4) (k0_off1_inb k 4)
  have l5 := load_row arg8 harg8 P k.val 5 hk (by decide) (k0_off1 k 5#32) (k0_off1_eq k 5) (k0_off1_inb k 5)
  have l6 := load_row arg8 harg8 P k.val 6 hk (by decide) (k0_off1 k 6#32) (k0_off1_eq k 6) (k0_off1_inb k 6)
  have l7 := load_row arg8 harg8 P k.val 7 hk (by decide) (k0_off1 k 7#32) (k0_off1_eq k 7) (k0_off1_inb k 7)
  have ls := load_state arg7 harg7 (stAt P s (8 * k.val)) inb_S16x128x128_S16x128x128_0_0_0
  unfold k0_t1_body
  iintro ⟨HR_arg8, HW_arg5, HW_arg7⟩
  sl_exec
  sl_step
  isplitl [HR_arg8]; · iexact HR_arg8
  isplitl [HW_arg5]
  · rw [show rows8 P s k = _ from ?e5]
    · iexact HW_arg5
    sl_unfold_words
    unfold k0_off1 at l0 l1 l2 l3 l4 l5 l6 l7
    dsimp only at l0 l1 l2 l3 l4 l5 l6 l7 ls ⊢
    simp only [l0, l1, l2, l3, l4, l5, l6, l7, ls, step_1, row_1, step_2, row_2, step_3, row_3, step_4, row_4, step_5, row_5, step_6, row_6, row_7]
    unfold rows8
    rfl
  · rw [show harg7.unread (stAt P s (8 * k.val + 8)) = _ from ?e7]
    · iexact HW_arg7
    sl_unfold_words
    rw [store_whole arg7 harg7]
    unfold k0_off1 at l0 l1 l2 l3 l4 l5 l6 l7
    dsimp only at l0 l1 l2 l3 l4 l5 l6 l7 ls ⊢
    simp only [l0, l1, l2, l3, l4, l5, l6, l7, ls, step_1, step_2, step_3, step_4, step_5, step_6, step_7]
    rfl

end Cert.KernelIdeal.Own
-- ==== Proof.KernelIdeal.Body.lean ====
/-
  The kernel body at one grid point, in its three cases (first, middle and last time block of a batch block): the carried
  state goes from what it held (or the block of the initial state) to the state 64 steps later, the block of outputs holds
  the 64 output rows, and the last time block stores the state.
-/
module

public import proofs.«01_k».proof.Proof.KernelIdeal.Trip

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3)

variable {F : FTy → Type} [FloatOps F]

local notation "𝕄" => MT nD τ sig Unit (Elt F) ℕ (UR sig nD τ) ℕ

/-- The store that left the carried state as it is before trip `k`: none before the first trip. -/
def stateL (P : Vec F S64x16x640 .f32) (s : Vec F S16x128x128 .f32) : ℕ → List (View.Piece (Elt F) S16x128x128 .f32)
  | 0 => []
  | k + 1 => [⟨Rect.unit (s := S16x128x128) ![0, 0, 0] S16x128x128.size inb_S16x128x128_S16x128x128_0_0_0, stAt P s (8 * (k + 1))⟩]

theorem writes_stateL (arg7 : Memref sig .tc .vmem S16x128x128 .f32) (harg7 : arg7.IsWhole) (P : Vec F S64x16x640 .f32)
    (G : BufTy.Contents (Elt F) arg7.view.ty) (k : ℕ) :
    arg7.view.writes (Elt F) G (stateL P (arg7.view.read (Elt F) G) k)
      = harg7.unread (stAt P (arg7.view.read (Elt F) G) (8 * k)) := by
  cases k with
  | zero => exact (harg7.unread_read G).symm
  | succ k => exact store_whole arg7 harg7 _ _ _ _

/-- Before trip `k`: the projections as they were, the first `8 k` rows of the output block written, the carried state
the one after `8 k` steps. -/
abbrev inv (c : Dev nD) (arg2 : Memref sig .tc .vmem S64x16x1024 .f32) (harg2 : arg2.IsWhole) (arg3 : Memref sig .tc .vmem S1024x640 .f32) (harg3 : arg3.IsWhole) (arg4 : Memref sig .tc .vmem S16x128x128 .f32) (harg4 : arg4.IsWhole) (arg5 : Memref sig .tc .vmem S64x16x128 .f32) (harg5 : arg5.IsWhole) (arg6 : Memref sig .tc .vmem S16x128x128 .f32) (harg6 : arg6.IsWhole) (arg7 : Memref sig .tc .vmem S16x128x128 .f32) (harg7 : arg7.IsWhole) (arg8 : Memref sig .tc .vmem S64x16x640 .f32) (harg8 : arg8.IsWhole)
    (X8 : BufTy.Contents (Elt F) arg8.view.ty) (G7 : BufTy.Contents (Elt F) arg7.view.ty) (k : ℕ) (_u : PUnit) : sProp 𝕄 :=
  iprop((arg8.view.loc (c : Thread nD τ) ↦[arg8.view.set]{fullShare} X8)
    ∗ (∃ f, (arg5.view.loc (c : Thread nD τ) ↦[arg5.view.set]{fullShare} f)
        ∗ ⌜∀ y : S64x16x128.Idx, (y 0).val < 8 * k → arg5.view.read (Elt F) f y = outBlk (arg8.view.read (Elt F) X8) (arg7.view.read (Elt F) G7) y⌝)
    ∗ (∃ f, (arg7.view.loc (c : Thread nD τ) ↦[arg7.view.set]{fullShare} f)
        ∗ ⌜f = arg7.view.writes (Elt F) G7 (stateL (arg8.view.read (Elt F) X8) (arg7.view.read (Elt F) G7) k)⌝))

set_option warn.classDefReducibility false in
/-- The time loop by that invariant. -/
@[sl_loop] def loop (𝒱 : Variants) (c : Dev nD) (bd : Option 𝒱.V) (E : Set ℕ) (i : grid0.Coords) (arg2 : Memref sig .tc .vmem S64x16x1024 .f32) (harg2 : arg2.IsWhole) (arg3 : Memref sig .tc .vmem S1024x640 .f32) (harg3 : arg3.IsWhole) (arg4 : Memref sig .tc .vmem S16x128x128 .f32) (harg4 : arg4.IsWhole) (arg5 : Memref sig .tc .vmem S64x16x128 .f32) (harg5 : arg5.IsWhole) (arg6 : Memref sig .tc .vmem S16x128x128 .f32) (harg6 : arg6.IsWhole) (arg7 : Memref sig .tc .vmem S16x128x128 .f32) (harg7 : arg7.IsWhole) (arg8 : Memref sig .tc .vmem S64x16x640 .f32) (harg8 : arg8.IsWhole)
    (X8 : BufTy.Contents (Elt F) arg8.view.ty) (G7 : BufTy.Contents (Elt F) arg7.view.ty) :
    Idealize.ShloMosaic.LoopInv (M := MT nD τ sig Unit (Elt F) ℕ (UR sig nD τ) ℕ) Idealize.ShloMosaic.frame (wpE (defs₀ (F := F)) 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8) where
  inv := inv (F := F) c arg2 harg2 arg3 harg3 arg4 harg4 arg5 harg5 arg6 harg6 arg7 harg7 arg8 harg8 X8 G7
  step k acc := by
    iintro ⟨H8, ⟨%f5, H5, %h5⟩, ⟨%f7, H7, %h7⟩⟩
    rw [writes_stateL arg7 harg7] at h7
    subst h7
    iapply (wp_wand_r Idealize.ShloMosaic.frame (wpE (defs₀ (F := F)) 𝒱 (c : Thread nD τ) bd) E)
    isplitl [H8 H5 H7]
    · iapply (trip (F := F) 𝒱 c bd i arg2 harg2 arg3 harg3 arg4 harg4 arg5 harg5 arg6 harg6 arg7 harg7 arg8 harg8 k (arg8.view.read (Elt F) X8) (arg7.view.read (Elt F) G7) E f5)
      isplitl [H8]
      · rw [harg8.unread_read]; iexact H8
      isplitl [H5]; · iexact H5
      iexact H7
    · iintro %_ ⟨H8, H5, H7⟩
      isplitl [H8]
      · rw [harg8.unread_read]; iexact H8
      isplitl [H5]
      · iexists _; isplitl [H5]; · iexact H5
        ipureintro
        intro y hy
        rw [read_rows8]
        split
        · rfl
        · exact h5 y (by omega)
      · iexists _; isplitl [H7]; · iexact H7
        ipureintro
        rw [writes_stateL arg7 harg7]
        exact congrArg (fun n => harg7.unread (stAt (arg8.view.read (Elt F) X8) (arg7.view.read (Elt F) G7) n)) (by omega)

/-- The same, started from known contents. -/
theorem writes_stateL_unread (arg7 : Memref sig .tc .vmem S16x128x128 .f32) (harg7 : arg7.IsWhole) (P : Vec F S64x16x640 .f32)
    (s : Vec F S16x128x128 .f32) (k : ℕ) :
    arg7.view.writes (Elt F) (harg7.unread s) (stateL P s k) = harg7.unread (stAt P s (8 * k)) := by
  have h := writes_stateL arg7 harg7 P (harg7.unread s) k
  rwa [harg7.read_unread] at h

theorem zero3 : (![0, 0, 0] : Fin 3 → ℕ) = fun _ => 0 := funext fun a => by fin_cases a <;> rfl
theorem zero2 : (![0, 0] : Fin 2 → ℕ) = fun _ => 0 := funext fun a => by fin_cases a <;> rfl

/-- What the projections' scratch reads after its whole-buffer store. -/
theorem read_whole8 (arg8 : Memref sig .tc .vmem S64x16x640 .f32) (f : BufTy.Contents (Elt F) arg8.view.ty)
    (L : List (View.Piece (Elt F) S64x16x640 .f32)) (P : Vec F S64x16x640 .f32)
    (inb : ∀ a, (![0, 0, 0] : Fin 3 → ℕ) a + S64x16x640.size a ≤ S64x16x640.size a) :
    arg8.view.read (Elt F) (arg8.view.writes (Elt F) f (⟨Rect.unit (s := S64x16x640) ![0, 0, 0] S64x16x640.size inb, P⟩ :: L)) = P := by
  funext y
  refine View.read_writes_cons_unit_of_mem (s := S64x16x640) arg8.view f inb P L y y rfl fun a => ?_
  match a with
  | ⟨0, _⟩ => show (y 0).val = 0 + (y 0).val; omega
  | ⟨1, _⟩ => show (y 1).val = 0 + (y 1).val; omega
  | ⟨2, _⟩ => show (y 2).val = 0 + (y 2).val; omega

theorem read_store8 (arg8 : Memref sig .tc .vmem S64x16x640 .f32) (f : BufTy.Contents (Elt F) arg8.view.ty)
    (L : List (View.Piece (Elt F) S64x16x640 .f32)) (P : Vec F S64x16x640 .f32)
    (inb : ∀ a, (![0, 0, 0] : Fin 3 → ℕ) a + (![64, 16, 640] : Fin 3 → ℕ) a ≤ S64x16x640.size a) :
    arg8.view.read (Elt F) (arg8.view.writes (Elt F) f (⟨Rect.unit (s := S64x16x640) ![0, 0, 0] ![64, 16, 640] inb, P⟩ :: L)) = P :=
  read_whole8 arg8 f L P inb

/-- What a load of the whole state reads after the loop. -/
theorem readCov_stateL (arg7 : Memref sig .tc .vmem S16x128x128 .f32) (harg7 : arg7.IsWhole) (P : Vec F S64x16x640 .f32)
    (s : Vec F S16x128x128 .f32) (inb : ∀ a, (![0, 0, 0] : Fin 3 → ℕ) a + S16x128x128.size a ≤ S16x128x128.size a) :
    arg7.view.readCov (stateL P s 8) (Rect.unit (s := S16x128x128) ![0, 0, 0] S16x128x128.size inb).toLoadRect = stAt P s 64 := by
  show View.readAt (Elt F) arg7.view _ (arg7.view.writes (Elt F) _ (⟨_, _⟩ :: [])) = _
  rw [store_whole arg7 harg7, load_state arg7 harg7]

theorem trips_eq : k0_t1_loop.trips = 8 := by decide +kernel

/-- First time block of a batch block: the state starts at the block of the initial state. -/
theorem run_first (c : Dev nD) (i : grid0.Coords) (arg2 : Memref sig .tc .vmem S64x16x1024 .f32) (harg2 : arg2.IsWhole) (arg3 : Memref sig .tc .vmem S1024x640 .f32) (harg3 : arg3.IsWhole) (arg4 : Memref sig .tc .vmem S16x128x128 .f32) (harg4 : arg4.IsWhole) (arg5 : Memref sig .tc .vmem S64x16x128 .f32) (harg5 : arg5.IsWhole) (arg6 : Memref sig .tc .vmem S16x128x128 .f32) (harg6 : arg6.IsWhole) (arg7 : Memref sig .tc .vmem S16x128x128 .f32) (harg7 : arg7.IsWhole) (arg8 : Memref sig .tc .vmem S64x16x640 .f32) (harg8 : arg8.IsWhole) (hc0 : (Scalar.cmpi .ne (Scalar.extui (Scalar.cmpi .eq (BitVec.ofNat 32 (i 1).val) 0#32)) 0#32) = 1#1) (hc1 : ¬k0_cond2 i = 1#1)
    (x0 : Vec F S64x16x1024 .f32) (x1 : Vec F S1024x640 .f32) (x2 : Vec F S16x128x128 .f32) (xi : Vec F S16x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outBlk (k0_pay2 x0 x1) x2) ∗ owns (c : Thread nD τ) arg6 fullShare xi ∗ owns (c : Thread nD τ) arg7 fullShare (stAt (k0_pay2 x0 x1) x2 64) ∗ (∃ d, owns (c : Thread nD τ) arg8 fullShare d)) -∗ K ⟨⟩))
      ⊢ wp frame (wpE (defs₀ (F := F)) Variants.none c none) E (cc0_ntm_cell i arg2 harg2 arg3 harg3 arg4 harg4 arg5 harg5 arg6 harg6 arg7 harg7 arg8 harg8) K := by
  simp only [cc0_ntm_cell_eq_skeleton]; unfold cc0_ntm_cell_skel
  unfold owns
  iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg6.eq_unread hf4
  skip
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    funext y
    rw [hL2 y (lt_of_lt_of_eq (y 0).isLt (by rw [show Scf.trips k0_t1_loop.lb k0_t1_loop.ub k0_t1_loop.st = 8 from trips_eq]; rfl))]
    sl_unfold_words
    simp only [read_store8, read_whole8, store_whole arg7 harg7, harg7.read_unread, pay_start, View.readAt_eq_ld, harg2.read_unread, harg3.read_unread, harg4.read_unread, View.ld_unit_zero (S := S64x16x1024) zero3, View.ld_unit_zero (S := S1024x640) zero2, View.ld_unit_zero (S := S16x128x128) zero3]
  isplitl [H4]
  · iexists _; isplitr; · ipureintro; exact harg6.read_unread _
    iexact H4
  isplitl [HS0]
  · iexists _; isplitr
    swap; · iexact HS0
    ipureintro
    sl_unfold_words
    simp only [show Scf.trips k0_t1_loop.lb k0_t1_loop.ub k0_t1_loop.st = 8 from trips_eq, View.writes_append, harg7.read_unread, writes_stateL arg7 harg7, writes_stateL_unread arg7 harg7]
    simp only [read_store8, read_whole8, store_whole arg7 harg7, harg7.read_unread, pay_start, View.readAt_eq_ld, harg2.read_unread, harg3.read_unread, harg4.read_unread, View.ld_unit_zero (S := S64x16x1024) zero3, View.ld_unit_zero (S := S1024x640) zero2, View.ld_unit_zero (S := S16x128x128) zero3]
  iexists _, _; isplitr; swap; · iexact HS1
  ipureintro; rfl

/-- A time block in the middle: the state starts where the block before left it. -/
theorem run_mid (c : Dev nD) (i : grid0.Coords) (arg2 : Memref sig .tc .vmem S64x16x1024 .f32) (harg2 : arg2.IsWhole) (arg3 : Memref sig .tc .vmem S1024x640 .f32) (harg3 : arg3.IsWhole) (arg4 : Memref sig .tc .vmem S16x128x128 .f32) (harg4 : arg4.IsWhole) (arg5 : Memref sig .tc .vmem S64x16x128 .f32) (harg5 : arg5.IsWhole) (arg6 : Memref sig .tc .vmem S16x128x128 .f32) (harg6 : arg6.IsWhole) (arg7 : Memref sig .tc .vmem S16x128x128 .f32) (harg7 : arg7.IsWhole) (arg8 : Memref sig .tc .vmem S64x16x640 .f32) (harg8 : arg8.IsWhole) (hc0 : ¬(Scalar.cmpi .ne (Scalar.extui (Scalar.cmpi .eq (BitVec.ofNat 32 (i 1).val) 0#32)) 0#32) = 1#1) (hc1 : ¬k0_cond2 i = 1#1)
    (x0 : Vec F S64x16x1024 .f32) (x1 : Vec F S1024x640 .f32) (x2 : Vec F S16x128x128 .f32) (xs : Vec F S16x128x128 .f32) (xi : Vec F S16x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi ∗ owns (c : Thread nD τ) arg7 fullShare xs ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outBlk (k0_pay2 x0 x1) xs) ∗ owns (c : Thread nD τ) arg6 fullShare xi ∗ owns (c : Thread nD τ) arg7 fullShare (stAt (k0_pay2 x0 x1) xs 64) ∗ (∃ d, owns (c : Thread nD τ) arg8 fullShare d)) -∗ K ⟨⟩))
      ⊢ wp frame (wpE (defs₀ (F := F)) Variants.none c none) E (cc0_ntm_cell i arg2 harg2 arg3 harg3 arg4 harg4 arg5 harg5 arg6 harg6 arg7 harg7 arg8 harg8) K := by
  simp only [cc0_ntm_cell_eq_skeleton]; unfold cc0_ntm_cell_skel
  unfold owns
  iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%ds1, %fs1, -, HS1⟩, Hk⟩
  obtain rfl := harg2.eq_unread hf0; obtain rfl := harg3.eq_unread hf1; obtain rfl := harg4.eq_unread hf2
  obtain rfl := harg6.eq_unread hf4
  obtain rfl := harg7.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    funext y
    rw [hL2 y (lt_of_lt_of_eq (y 0).isLt (by rw [show Scf.trips k0_t1_loop.lb k0_t1_loop.ub k0_t1_loop.st = 8 from trips_eq]; rfl))]
    sl_unfold_words
    simp only [read_store8, read_whole8, store_whole arg7 harg7, harg7.read_unread, pay_start, View.readAt_eq_ld, harg2.read_unread, harg3.read_unread, harg4.read_unread, View.ld_unit_zero (S := S64x16x1024) zero3, View.ld_unit_zero (S := S1024x640) zero2, View.ld_unit_zero (S := S16x128x128) zero3]
  isplitl [H4]
  · iexists _; isplitr; · ipureintro; exact harg6.read_unread _
    iexact H4
  isplitl [HS0]
  · iexists _; isplitr
    swap; · iexact HS0
    ipureintro
    sl_unfold_words
    simp only [show Scf.trips k0_t1_loop.lb k0_t1_loop.ub k0_t1_loop.st = 8 from trips_eq, View.writes_append, harg7.read_unread, writes_stateL arg7 harg7, writes_stateL_unread arg7 harg7]
    simp only [read_store8, read_whole8, store_whole arg7 harg7, harg7.read_unread, pay_start, View.readAt_eq_ld, harg2.read_unread, harg3.read_unread, harg4.read_unread, View.ld_unit_zero (S := S64x16x1024) zero3, View.ld_unit_zero (S := S1024x640) zero2, View.ld_unit_zero (S := S16x128x128) zero3]
  iexists _, _; isplitr; swap; · iexact HS1
  ipureintro; rfl

/-- The last time block: it also stores the state. -/
theorem run_last (c : Dev nD) (i : grid0.Coords) (arg2 : Memref sig .tc .vmem S64x16x1024 .f32) (harg2 : arg2.IsWhole) (arg3 : Memref sig .tc .vmem S1024x640 .f32) (harg3 : arg3.IsWhole) (arg4 : Memref sig .tc .vmem S16x128x128 .f32) (harg4 : arg4.IsWhole) (arg5 : Memref sig .tc .vmem S64x16x128 .f32) (harg5 : arg5.IsWhole) (arg6 : Memref sig .tc .vmem S16x128x128 .f32) (harg6 : arg6.IsWhole) (arg7 : Memref sig .tc .vmem S16x128x128 .f32) (harg7 : arg7.IsWhole) (arg8 : Memref sig .tc .vmem S64x16x640 .f32) (harg8 : arg8.IsWhole) (hc0 : ¬(Scalar.cmpi .ne (Scalar.extui (Scalar.cmpi .eq (BitVec.ofNat 32 (i 1).val) 0#32)) 0#32) = 1#1) (hc1 : k0_cond2 i = 1#1)
    (x0 : Vec F S64x16x1024 .f32) (x1 : Vec F S1024x640 .f32) (x2 : Vec F S16x128x128 .f32) (xs : Vec F S16x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outBlk (k0_pay2 x0 x1) xs) ∗ owns (c : Thread nD τ) arg6 fullShare (stAt (k0_pay2 x0 x1) xs 64) ∗ owns (c : Thread nD τ) arg7 fullShare (stAt (k0_pay2 x0 x1) xs 64) ∗ (∃ d, owns (c : Thread nD τ) arg8 fullShare d)) -∗ K ⟨⟩))
      ⊢ wp frame (wpE (defs₀ (F := F)) Variants.none c none) E (cc0_ntm_cell i arg2 harg2 arg3 harg3 arg4 harg4 arg5 harg5 arg6 harg6 arg7 harg7 arg8 harg8) K := by
  simp only [cc0_ntm_cell_eq_skeleton]; unfold cc0_ntm_cell_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%ds1, %fs1, -, HS1⟩, Hk⟩
  obtain rfl := harg2.eq_unread hf0; obtain rfl := harg3.eq_unread hf1; obtain rfl := harg4.eq_unread hf2
  skip
  obtain rfl := harg7.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    funext y
    rw [hL2 y (lt_of_lt_of_eq (y 0).isLt (by rw [show Scf.trips k0_t1_loop.lb k0_t1_loop.ub k0_t1_loop.st = 8 from trips_eq]; rfl))]
    sl_unfold_words
    simp only [read_store8, read_whole8, store_whole arg7 harg7, harg7.read_unread, pay_start, View.readAt_eq_ld, harg2.read_unread, harg3.read_unread, harg4.read_unread, View.ld_unit_zero (S := S64x16x1024) zero3, View.ld_unit_zero (S := S1024x640) zero2, View.ld_unit_zero (S := S16x128x128) zero3]
  isplitl [H4]
  · iexists _; isplitr
    swap; · iexact H4
    ipureintro
    rw [store_whole arg6 harg6, harg6.read_unread]
    sl_unfold_words
    simp only [show Scf.trips k0_t1_loop.lb k0_t1_loop.ub k0_t1_loop.st = 8 from trips_eq, View.writes_append, harg7.read_unread, writes_stateL arg7 harg7, writes_stateL_unread arg7 harg7]
    refine (readCov_stateL arg7 harg7 _ _ _).trans ?_
    simp only [read_store8, read_whole8, View.readAt_eq_ld, harg2.read_unread, harg3.read_unread, View.ld_unit_zero (S := S64x16x1024) zero3, View.ld_unit_zero (S := S1024x640) zero2]
  isplitl [HS0]
  · iexists _; isplitr
    swap; · iexact HS0
    ipureintro
    sl_unfold_words
    simp only [show Scf.trips k0_t1_loop.lb k0_t1_loop.ub k0_t1_loop.st = 8 from trips_eq, View.writes_append, harg7.read_unread, writes_stateL arg7 harg7, writes_stateL_unread arg7 harg7]
    simp only [read_store8, read_whole8, store_whole arg7 harg7, harg7.read_unread, pay_start, View.readAt_eq_ld, harg2.read_unread, harg3.read_unread, harg4.read_unread, View.ld_unit_zero (S := S64x16x1024) zero3, View.ld_unit_zero (S := S1024x640) zero2, View.ld_unit_zero (S := S16x128x128) zero3]
  iexists _, _; isplitr; swap; · iexact HS1
  ipureintro; rfl

end Cert.KernelIdeal.Own
-- ==== Proof.KernelIdeal.Frame.lean ====
/- The frame of the kernel: the state carried between the grid points, the proof data, the run. -/
module

public import proofs.«01_k».proof.Proof.KernelIdeal.Runs
public import proofs.«01_k».proof.Proof.KernelIdeal.Body
public import Idealize.ShloMosaic.Lib.Claim

@[expose] public section

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of inputs of point `t`, the weights, and the block of the initial state. -/
def xBlk (c : Dev nD) (t : Fin cfg0.N) : Vec F S64x16x1024 .f32 := iblk m c 0 t
def wBlk (c : Dev nD) (t : Fin cfg0.N) : Vec F S1024x640 .f32 := iblk m c 1 t
def sBlk (c : Dev nD) (t : Fin cfg0.N) : Vec F S16x128x128 .f32 := iblk m c 2 t

/-- The five projections of the input block of point `t`. -/
def proj (c : Dev nD) (t : Fin cfg0.N) : Vec F S64x16x640 .f32 := k0_pay2 (xBlk m c t) (wBlk m c t)

/-- The state after the body at position `n`: a batch block starts at the block of the initial state, later time
    blocks go on from the state before. -/
def stAfter (c : Dev nD) : (n : ℕ) → n < cfg0.N → Vec F S16x128x128 .f32
  | 0, h => stAt (proj m c ⟨0, h⟩) (sBlk m c ⟨0, h⟩) 64
  | n + 1, h => stAt (proj m c ⟨n + 1, h⟩) (if (n + 1) % 8 = 0 then sBlk m c ⟨n + 1, h⟩ else stAfter c n (Nat.lt_of_succ_lt h)) 64

/-- The state point `t` starts from. -/
def stIn (c : Dev nD) (t : Fin cfg0.N) : Vec F S16x128x128 .f32 :=
  if t.val % 8 = 0 then sBlk m c t else stAfter m c (t.val - 1) (Nat.lt_of_le_of_lt (Nat.sub_le _ _) t.isLt)

theorem stAfter_eq (c : Dev nD) (t : Fin cfg0.N) : stAfter m c t.val t.isLt = stAt (proj m c t) (stIn m c t) 64 := by
  obtain ⟨n, h⟩ := t
  cases n with
  | zero => rfl
  | succ n => rfl

theorem stIn_first (c : Dev nD) (t : Fin cfg0.N) (h : t.val % 8 = 0) : stIn m c t = sBlk m c t := if_pos h
theorem stIn_later (c : Dev nD) (t : Fin cfg0.N) (h : ¬t.val % 8 = 0) :
    stIn m c t = stAfter m c (t.val - 1) (Nat.lt_of_le_of_lt (Nat.sub_le _ _) t.isLt) := if_neg h

/-- The region invariant before position `n` with a scratch the kernel CARRIES between points: before the first point the
    class's (Lib/Pipeline/Frame.lean `ΦA`: every scratch at anything); afterwards the scoped rest with each carried scratch
    at what the point before left in it, the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare (stAfter m c n hn) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (stAfter m c n hn) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (stAfter m c (n - 1) (by omega)) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (proj m c t) (stIn m c t)
    | ⟨4, _⟩ => stAfter m c t.val t.isLt
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlk (proj m c t) (stIn m c t) := by dsimp only [dats]
theorem after0_4 (c : Dev nD) (t : Fin cfg0.N) : (dats m 0 c).after 4 t = stAfter m c t.val t.isLt := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 12000000 in
/-- The body at any point: the inputs' memrefs hold their blocks, the point's place among the time blocks says which run
    of the body applies, and the state goes from what the point before left to what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
      unfold Dat.leavesExact; rw [liveAt0_0 t], after0_0,
      show (dats m 0 c).leavesExact 1 t = owns (c : Thread nD τ) (ms0_1 t) fullShare ((dats m 0 c).after 1 t) from by
      unfold Dat.leavesExact; rw [liveAt0_1 t], after0_1,
      show (dats m 0 c).leavesExact 2 t = owns (c : Thread nD τ) (ms0_2 t) fullShare ((dats m 0 c).after 2 t) from by
      unfold Dat.leavesExact; rw [liveAt0_2 t], after0_2,
      show (dats m 0 c).leavesExact 3 t = owns (c : Thread nD τ) (ms0_3 t) fullShare ((dats m 0 c).after 3 t) from by
      unfold Dat.leavesExact; rw [liveAt0_3 t], after0_3]
  by_cases h0 : t.val % 8 = 0
  · have h1 : ¬t.val % 8 = 7 := by omega
    rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
    rw [stAfter_eq, stIn_first m c t h0, PhiS_castSucc m c t]
    by_cases hz : t.val = 0
    · rw [PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ _ _ ((hcond0_0 t).mpr h0) (fun h => h1 ((hcond0_1 t).mp h)) (xBlk m c t) (wBlk m c t) (sBlk m c t) _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4
    · rw [PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ _ _ ((hcond0_0 t).mpr h0) (fun h => h1 ((hcond0_1 t).mp h)) (xBlk m c t) (wBlk m c t) (sBlk m c t) _ Set.univ _)
      isplitl [H0]; · iexact H0
      isplitl [H1]; · iexact H1
      isplitl [H2]; · iexact H2
      isplitl [H3]; · iexists _; iexact H3
      isplitl [H4]; · iexact H4
      isplitl [HS0]; · iexists _; iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    rw [PhiS_castSucc m c t, PhiS_pos m c _ _ hz]
    by_cases h1 : t.val % 8 = 7
    · rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [stAfter_eq m c t, stIn_later m c t h0]
      iintro ⟨⟨⟨HS0, HS1⟩, Hg⟩, Ho, ⟨%d0, H0⟩, ⟨%d1, H1⟩, ⟨%d2, H2⟩, ⟨%d3, H3⟩, ⟨%d4, H4⟩⟩
      iapply (run_last c (grid0.coords t) _ _ _ _ _ _ _ _ _ _ _ _ _ _ (fun h => h0 ((hcond0_0 t).mp h)) ((hcond0_1 t).mpr h1) (xBlk m c t) (wBlk m c t) (sBlk m c t) _ Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [stAfter_eq m c t, stIn_later m c t h0]
      iintro ⟨⟨⟨HS0, HS1⟩, Hg⟩, Ho, ⟨%d0, H0⟩, ⟨%d1, H1⟩, ⟨%d2, H2⟩, ⟨%d3, H3⟩, ⟨%d4, H4⟩⟩
      iapply (run_mid c (grid0.coords t) _ _ _ _ _ _ _ _ _ _ _ _ _ _ (fun h => h0 ((hcond0_0 t).mp h)) (fun h => h1 ((hcond0_1 t).mp h)) (xBlk m c t) (wBlk m c t) (sBlk m c t) _ _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Own

end
-- ==== Proof.Values.Finite.lean ====
/-
  The precondition read at an entry: every entry of every argument is a real number.
-/
module

public import proofs.«01_k».proof.Defs
public import Idealize.ShloMosaic.Lib.Pointwise

@[expose] public section

set_option maxRecDepth 16384

noncomputable section

namespace Cert.Pre_all_finite.Own

open Cert.Pre_all_finite
open Idealize.ShloMosaic Idealize.ShloMosaic.TcCoe

/-- The shape relations of the predicate. -/
theorem facts : Facts where
  bcast_S_S512x32x1024 := by decide
  bcast_S_S32x128x128 := by decide
  bcast_S_S128x1024 := by decide

/-- The predicate's bound is infinity. -/
theorem bound_eq : Ideal.ofBits .f32 0x7F800000#32 = ⊤ := by
  simp [Ideal.ofBits, Ideal.ieee]

/-- An extended real whose absolute value is below infinity is a real number. -/
theorem real_of_bit (x : EReal) (h : BitVec.ofBool (decide (max x (-x) < Ideal.ofBits .f32 0x7F800000#32)) = 1#1) : x = ((x.toReal : ℝ) : EReal) := by
  rw [bound_eq] at h
  have h' : max x (-x) < ⊤ := by
    by_contra hn
    rw [decide_eq_false hn] at h
    exact absurd h (by decide)
  have h1 : x ≠ ⊤ := fun e => by simp [e] at h'
  have h2 : x ≠ ⊥ := fun e => by simp [e] at h'
  exact (EReal.coe_toReal h1 h2).symm

/-- The entries of the inputs. -/
theorem real_x [Facts] (A : FVec Ideal S512x32x1024 .f32)
    (h : cmpf .olt (Host.absf A) (broadcastInDim S512x32x1024 ![] Facts.bcast_S_S512x32x1024 (constant S_ .f32 0x7F800000#32)) = fun _ => 1#1)
    (i : Fin 512) (j : Fin 32) (k : Fin 1024) : A (ix3 i j k) = (((A (ix3 i j k) : EReal).toReal : ℝ) : EReal) := by
  have h' := congrFun h (ix3 i j k)
  pointwise [] at h'
  exact real_of_bit _ h'

/-- The entries of the initial state. -/
theorem real_s [Facts] (A : FVec Ideal S32x128x128 .f32)
    (h : cmpf .olt (Host.absf A) (broadcastInDim S32x128x128 ![] Facts.bcast_S_S32x128x128 (constant S_ .f32 0x7F800000#32)) = fun _ => 1#1)
    (i : Fin 32) (j k : Fin 128) : A (ix3 i j k) = (((A (ix3 i j k) : EReal).toReal : ℝ) : EReal) := by
  have h' := congrFun h (ix3 i j k)
  pointwise [] at h'
  exact real_of_bit _ h'

/-- The entries of a weight. -/
theorem real_w [Facts] (A : FVec Ideal S128x1024 .f32)
    (h : cmpf .olt (Host.absf A) (broadcastInDim S128x1024 ![] Facts.bcast_S_S128x1024 (constant S_ .f32 0x7F800000#32)) = fun _ => 1#1)
    (i : Fin 128) (j : Fin 1024) : A (ix2 i j) = (((A (ix2 i j) : EReal).toReal : ℝ) : EReal) := by
  have h' := congrFun h (ix2 i j)
  pointwise [] at h'
  exact real_of_bit _ h'

end Cert.Pre_all_finite.Own
-- ==== Proof.Values.Model.lean ====
/-
  The cell over the real numbers: one time step, its read-out, and the recursion over time; and one step computed with
  the ideal operations, in the order the kernel uses and in the order the reference uses.
-/
module

public import Idealize.ShloMosaic.Lib.Pointwise

@[expose] public section

noncomputable section

namespace Cert.Model

open Idealize.ShloMosaic

/-- The small constant added to the norm. -/
def eps : ℝ := (0x0637BD + 2 ^ 23 : ℝ) * 2 ^ (-43 : ℤ)

theorem eps_pos : 0 < eps := by unfold eps; positivity

theorem ofBits_eps : Ideal.ofBits .f32 0x358637BD#32 = (eps : EReal) := by
  simp [Ideal.ofBits, Ideal.ieee, -EReal.coe_mul, eps]
  norm_num

/-- A sum of real numbers is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The norm of a key, with the small constant. -/
def nrm (k : Fin 128 → ℝ) : ℝ := Real.sqrt (∑ j, k j * k j) + eps

theorem nrm_pos (k : Fin 128 → ℝ) : 0 < nrm k := add_pos_of_nonneg_of_pos (Real.sqrt_nonneg _) eps_pos

/-- One time step of the state: row `i` is erased along the key and written. -/
def step (S : Fin 128 → Fin 128 → ℝ) (k v e w : Fin 128 → ℝ) (i j : Fin 128) : ℝ :=
  Real.tanh (S i j * (1 - e i * (k j / nrm k)) + w i * v i * (k j / nrm k))

/-- The state read with a query. -/
def read (S : Fin 128 → Fin 128 → ℝ) (q : Fin 128 → ℝ) (i : Fin 128) : ℝ := ∑ j, S i j * q j

/-- The output of a read-out `r`: `r` times `silu r`. -/
def act (r : ℝ) : ℝ := r * (r * (1 / (1 + Real.exp (-r))))

/-- The norm with the ideal operations. -/
theorem ideal_nrm (k : Fin 128 → ℝ) :
    Ideal.sqrt (∑ j, (k j : EReal) * (k j : EReal)) + Ideal.ofBits .f32 0x358637BD#32 = (nrm k : EReal) := by
  have h : (∑ j, (k j : EReal) * (k j : EReal)) = ((∑ j, k j * k j : ℝ) : EReal) := by
    rw [coe_sum]; simp only [EReal.coe_mul]
  rw [h, Ideal.sqrt_coe, if_neg (not_lt.mpr (Finset.sum_nonneg fun j _ => mul_self_nonneg (k j))), ofBits_eps, ← EReal.coe_add]
  rfl

/-- The normalised key with the ideal operations. -/
theorem ideal_key (k : Fin 128 → ℝ) (j : Fin 128) :
    Ideal.div (k j : EReal) (nrm k : EReal) = ((k j / nrm k : ℝ) : EReal) := by
  rw [Ideal.div_coe (nrm_pos k).ne', ← EReal.coe_mul, mul_one_div]

/-- A step with the ideal operations, in the kernel's order. -/
theorem step_kernel (S : Fin 128 → Fin 128 → ℝ) (k v e w : Fin 128 → ℝ) (i j : Fin 128) :
    Ideal.tanh ((S i j : EReal) - Ideal.div (k j : EReal) (Ideal.sqrt (∑ x, (k x : EReal) * (k x : EReal)) + Ideal.ofBits .f32 0x358637BD#32)
        * ((S i j : EReal) * (e i : EReal) - (w i : EReal) * (v i : EReal))) = (step S k v e w i j : EReal) := by
  rw [ideal_nrm, ideal_key]
  simp only [← EReal.coe_mul, ← EReal.coe_sub, Ideal.tanh_coe]
  unfold step
  congr 2
  ring

/-- A step with the ideal operations, in the reference's order. -/
theorem step_reference (S : Fin 128 → Fin 128 → ℝ) (k v e w : Fin 128 → ℝ) (i j : Fin 128) :
    Ideal.tanh ((S i j : EReal) * (1 - (e i : EReal) * Ideal.div (k j : EReal) (Ideal.sqrt (∑ x, (k x : EReal) * (k x : EReal)) + Ideal.ofBits .f32 0x358637BD#32))
        + (w i : EReal) * (v i : EReal) * Ideal.div (k j : EReal) (Ideal.sqrt (∑ x, (k x : EReal) * (k x : EReal)) + Ideal.ofBits .f32 0x358637BD#32))
      = (step S k v e w i j : EReal) := by
  rw [ideal_nrm, ideal_key, show (1 : EReal) = ((1 : ℝ) : EReal) from rfl]
  simp only [← EReal.coe_mul, ← EReal.coe_sub, ← EReal.coe_add, Ideal.tanh_coe]
  rfl

/-- The activation with the ideal operations, in the kernel's order. -/
theorem act_kernel (r : ℝ) : (r : EReal) * (r : EReal) * Ideal.logistic (r : EReal) = (act r : EReal) := by
  rw [Ideal.logistic_coe, ← EReal.coe_mul, ← EReal.coe_mul]
  unfold act
  rw [one_div, mul_assoc]

/-- The activation with the ideal operations, in the reference's order. -/
theorem act_reference (r : ℝ) :
    (r : EReal) * ((r : EReal) * Ideal.div 1 (1 + Ideal.exp (-(r : EReal)))) = (act r : EReal) := by
  rw [← EReal.coe_neg, Ideal.exp_coe, show (1 : EReal) = ((1 : ℝ) : EReal) from rfl, ← EReal.coe_add,
    Ideal.div_coe (add_pos one_pos (Real.exp_pos _)).ne', ← EReal.coe_mul, ← EReal.coe_mul, ← EReal.coe_mul, one_mul]
  rfl

/-- The real entries of the seven arguments, the time axis continued periodically. -/
structure Args where
  x : ℕ → Fin 32 → Fin 1024 → ℝ
  s : Fin 32 → Fin 128 → Fin 128 → ℝ
  wk : Fin 128 → Fin 1024 → ℝ
  wv : Fin 128 → Fin 1024 → ℝ
  wq : Fin 128 → Fin 1024 → ℝ
  we : Fin 128 → Fin 1024 → ℝ
  ww : Fin 128 → Fin 1024 → ℝ

/-- A projection of the inputs. -/
def Args.pr (a : Args) (W : Fin 128 → Fin 1024 → ℝ) (t : ℕ) (b : Fin 32) (n : Fin 128) : ℝ := ∑ d, a.x t b d * W n d

/-- The state after `t` time steps. -/
def Args.st (a : Args) : ℕ → Fin 32 → Fin 128 → Fin 128 → ℝ
  | 0 => a.s
  | t + 1 => fun b => step (a.st t b) (a.pr a.wk t b) (a.pr a.wv t b) (a.pr a.we t b) (a.pr a.ww t b)

/-- The output of time step `t`. -/
def Args.out (a : Args) (t : ℕ) (b : Fin 32) (i : Fin 128) : ℝ := act (read (a.st (t + 1) b) (a.pr a.wq t b) i)

end Cert.Model
-- ==== Proof.Values.KerStep.lean ====
/-
  The kernel's recursions read at an entry: on a block of real projections, started at the transposed state of the
  recurrence, the state after `n` steps is the recurrence's, transposed, and the output rows are the recurrence's.
-/
module

public import proofs.«01_k».proof.Proof.KernelIdeal.Step
public import proofs.«01_k».proof.Proof.Values.Model
public import Idealize.ShloMosaic.Lib.Pointwise

@[expose] public section

set_option maxRecDepth 16384

noncomputable section

namespace Cert.KernelIdeal.Own

open Cert.KernelIdeal.Gen Cert.Model
open Idealize.ShloMosaic Idealize.ShloMosaic.TcCoe

/-- The block of projections of the 64 time steps from `T` on, for the batches `g`. -/
structure Projs (a : Args) (T : ℕ) (g : Fin 16 → Fin 32) (P : Vec Ideal S64x16x640 .f32) : Prop where
  k : ∀ (t : Fin 64) (b : Fin 16) (j : Fin 128), P (ix3 t b (⟨j.val, by omega⟩ : Fin 640)) = (a.pr a.wk (T + t.val) (g b) j : EReal)
  v : ∀ (t : Fin 64) (b : Fin 16) (j : Fin 128), P (ix3 t b (⟨128 + j.val, by omega⟩ : Fin 640)) = (a.pr a.wv (T + t.val) (g b) j : EReal)
  q : ∀ (t : Fin 64) (b : Fin 16) (j : Fin 128), P (ix3 t b (⟨256 + j.val, by omega⟩ : Fin 640)) = (a.pr a.wq (T + t.val) (g b) j : EReal)
  e : ∀ (t : Fin 64) (b : Fin 16) (j : Fin 128), P (ix3 t b (⟨384 + j.val, by omega⟩ : Fin 640)) = (a.pr a.we (T + t.val) (g b) j : EReal)
  w : ∀ (t : Fin 64) (b : Fin 16) (j : Fin 128), P (ix3 t b (⟨512 + j.val, by omega⟩ : Fin 640)) = (a.pr a.ww (T + t.val) (g b) j : EReal)

/-- A row of the block. -/
theorem rowP_at (P : Vec Ideal S64x16x640 .f32) (n : ℕ) (hn : n < 64) (b : Fin 16) (x : Fin 640) :
    rowP P n (ix3 0 b x) = P (ix3 (⟨n, hn⟩ : Fin 64) b x) := by
  unfold rowP
  simp only [Nat.mod_eq_of_lt hn]
  rfl

/-- One state update at an entry. -/
theorem pay4_at (st : Vec Ideal S16x128x128 .f32) (row : Vec Ideal S1x16x640 .f32) (b : Fin 16) (j i : Fin 128) :
    k0_pay4 st row (ix3 b j i) = Ideal.tanh (st (ix3 b j i) - Ideal.div (row (ix3 0 b (⟨j.val, by omega⟩ : Fin 640)))
        (Ideal.sqrt (∑ x : Fin 128, row (ix3 0 b (⟨x.val, by omega⟩ : Fin 640)) * row (ix3 0 b (⟨x.val, by omega⟩ : Fin 640))) + Ideal.ofBits .f32 0x358637BD#32)
      * (st (ix3 b j i) * row (ix3 0 b (⟨384 + i.val, by omega⟩ : Fin 640))
        - row (ix3 0 b (⟨512 + i.val, by omega⟩ : Fin 640)) * row (ix3 0 b (⟨128 + i.val, by omega⟩ : Fin 640)))) := by
  pointwise [k0_pay4, k0_pay3]

/-- One output row at an entry. -/
theorem pay5_at (st : Vec Ideal S16x128x128 .f32) (row : Vec Ideal S1x16x640 .f32) (b : Fin 16) (i : Fin 128) (r : EReal)
    (hr : ∑ x : Fin 128, row (ix3 0 b (⟨256 + x.val, by omega⟩ : Fin 640)) * k0_pay4 st row (ix3 b x i) = r) :
    k0_pay5 st row (ix3 0 b i) = r * r * Ideal.logistic r := by
  subst hr
  pointwise [k0_pay5, k0_pay3]

/-- The state of a block after `n` steps. -/
theorem stAt_at {a : Args} {T : ℕ} {g : Fin 16 → Fin 32} {P : Vec Ideal S64x16x640 .f32} (h : Projs a T g P) (s : Vec Ideal S16x128x128 .f32)
    (hs : ∀ (b : Fin 16) (j i : Fin 128), s (ix3 b j i) = (a.st T (g b) i j : EReal)) :
    ∀ n ≤ 64, ∀ (b : Fin 16) (j i : Fin 128), stAt P s n (ix3 b j i) = (a.st (T + n) (g b) i j : EReal)
  | 0, _ => hs
  | n + 1, hn => fun b j i => by
    have ih := stAt_at h s hs n (by omega)
    have hn' : n < 64 := by omega
    show k0_pay4 (stAt P s n) (rowP P n) (ix3 b j i) = _
    rw [pay4_at]
    simp only [ih, rowP_at P n hn', h.k ⟨n, hn'⟩, h.v ⟨n, hn'⟩, h.e ⟨n, hn'⟩, h.w ⟨n, hn'⟩]
    exact step_kernel (a.st (T + n) (g b)) _ _ _ _ i j

/-- The block of outputs. -/
theorem outBlk_at {a : Args} {T : ℕ} {g : Fin 16 → Fin 32} {P : Vec Ideal S64x16x640 .f32} (h : Projs a T g P) (s : Vec Ideal S16x128x128 .f32)
    (hs : ∀ (b : Fin 16) (j i : Fin 128), s (ix3 b j i) = (a.st T (g b) i j : EReal)) (t : Fin 64) (b : Fin 16) (i : Fin 128) :
    outBlk P s (ix3 t b i) = (a.out (T + t.val) (g b) i : EReal) := by
  show k0_pay5 (stAt P s t.val) (rowP P t.val) (ix3 0 b i) = _
  refine (pay5_at _ _ b i _ ?_).trans (act_kernel _)
  have e : ∀ x : Fin 128, k0_pay4 (stAt P s t.val) (rowP P t.val) (ix3 b x i) = (a.st (T + (t.val + 1)) (g b) i x : EReal) :=
    fun x => stAt_at h s hs (t.val + 1) t.isLt b x i
  unfold Model.read
  rw [coe_sum]
  refine Finset.sum_congr rfl fun x _ => ?_
  rw [e x, rowP_at P t.val t.isLt, h.q, EReal.coe_mul, mul_comm]
  rfl

end Cert.KernelIdeal.Own
-- ==== Proof.Values.KerBlocks.lean ====
/-
  The kernel's blocks at an entry: the windows' blocks of the arguments, the projections of a block, and the state
  carried between the grid points, for arguments with real entries.
-/
module

public import proofs.«01_k».proof.Proof.KernelIdeal.Frame
public import proofs.«01_k».proof.Proof.Values.KerStep
public import Idealize.ShloMosaic.Lib.Pipeline.ValueKit
public import Idealize.ShloMosaic.Lib.StableHlo.RunRead

@[expose] public section

set_option maxRecDepth 16384

noncomputable section

namespace Cert.KernelIdeal.Own

open Cert.KernelIdeal.Gen Cert.Model
open Idealize.ShloMosaic Idealize.ShloMosaic.TcCoe Idealize.SL.Sem
open Idealize.ShloMosaic.Pipeline (Dat)

variable (m : (ref : Loc nD τ sig) → ref.ty.Contents (Elt Ideal))

/-- The arguments of device `c` have the given real entries. -/
structure Holds (a : Args) (c : Dev nD) : Prop where
  x : ∀ (t : Fin 512) (b : Fin 32) (d : Fin 1024), (m ((c.tc : Thread nD τ).loc main_arg0) (ix3 t b d) : EReal) = (a.x t.val b d : EReal)
  s : ∀ (b : Fin 32) (i j : Fin 128), (m ((c.tc : Thread nD τ).loc main_arg1) (ix3 b i j) : EReal) = (a.s b i j : EReal)
  wk : ∀ (n : Fin 128) (d : Fin 1024), (m ((c.tc : Thread nD τ).loc main_arg2) (ix2 n d) : EReal) = (a.wk n d : EReal)
  wv : ∀ (n : Fin 128) (d : Fin 1024), (m ((c.tc : Thread nD τ).loc main_arg3) (ix2 n d) : EReal) = (a.wv n d : EReal)
  wq : ∀ (n : Fin 128) (d : Fin 1024), (m ((c.tc : Thread nD τ).loc main_arg4) (ix2 n d) : EReal) = (a.wq n d : EReal)
  we : ∀ (n : Fin 128) (d : Fin 1024), (m ((c.tc : Thread nD τ).loc main_arg5) (ix2 n d) : EReal) = (a.we n d : EReal)
  ww : ∀ (n : Fin 128) (d : Fin 1024), (m ((c.tc : Thread nD τ).loc main_arg6) (ix2 n d) : EReal) = (a.ww n d : EReal)

/-- The batches of the blocks of point `t`. -/
def bat (t : ℕ) (b : Fin 16) : Fin 32 := ⟨(16 * (t / 8) + b.val) % 32, Nat.mod_lt _ (by decide)⟩

/-- The block each window is on at point `t`. -/
theorem idx0 : ∀ t : Fin cfg0.N, win0_0.index t = ![t.val % 8, t.val / 8, 0] :=
  (by decide +kernel : ∀ t : Fin grid0.N, win0_0.index t = ![t.val % 8, t.val / 8, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val / 8, 0, 0] :=
  (by decide +kernel : ∀ t : Fin grid0.N, win0_2.index t = ![t.val / 8, 0, 0])
theorem idx3 : ∀ t : Fin cfg0.N, win0_3.index t = ![t.val % 8, t.val / 8, 0] :=
  (by decide +kernel : ∀ t : Fin grid0.N, win0_3.index t = ![t.val % 8, t.val / 8, 0])
theorem idx4 : ∀ t : Fin cfg0.N, win0_4.index t = ![t.val / 8, 0, 0] :=
  (by decide +kernel : ∀ t : Fin grid0.N, win0_4.index t = ![t.val / 8, 0, 0])

/-- The stacked weights, transposed. -/
def wallOf (wk wv wq we ww : FVec Ideal S128x1024 .f32) : FVec Ideal S1024x640 .f32 :=
  transpose S1024x640 [1, 0] (concatenate S640x1024 0 [⟨S128x1024, wk⟩, ⟨S128x1024, wv⟩, ⟨S128x1024, wq⟩, ⟨S128x1024, we⟩, ⟨S128x1024, ww⟩]
    concatenates_S128x1024_S128x1024_S128x1024_S128x1024_S128x1024_S640x1024_d0) transposes_S640x1024_S1024x640_1_0

/-- The launch finds the stacked weights in the second window's array. -/
theorem V_wall (c : Dev nD) : V m c main_v1 = wallOf (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) := by
  unfold V V0
  after_reads_simp
  rfl

/-- The stacked weights at an entry: five bands of 128 columns. -/
theorem wall_k (wk wv wq we ww : FVec Ideal S128x1024 .f32) (d : Fin 1024) (n : Fin 128) :
    wallOf wk wv wq we ww (ix2 d (⟨n.val, by omega⟩ : Fin 640)) = wk (ix2 n d) := by
  pointwise [wallOf]
theorem wall_v (wk wv wq we ww : FVec Ideal S128x1024 .f32) (d : Fin 1024) (n : Fin 128) :
    wallOf wk wv wq we ww (ix2 d (⟨128 + n.val, by omega⟩ : Fin 640)) = wv (ix2 n d) := by
  pointwise [wallOf]

theorem wall_q (wk wv wq we ww : FVec Ideal S128x1024 .f32) (d : Fin 1024) (n : Fin 128) :
    wallOf wk wv wq we ww (ix2 d (⟨256 + n.val, by omega⟩ : Fin 640)) = wq (ix2 n d) := by
  pointwise [wallOf]
  rw [dif_neg (by omega)]
  rw [dif_neg (by omega)]
  rw [dif_pos (by omega)]
  congr 2
  exact Fin.ext (by dsimp only; omega)

theorem wall_e (wk wv wq we ww : FVec Ideal S128x1024 .f32) (d : Fin 1024) (n : Fin 128) :
    wallOf wk wv wq we ww (ix2 d (⟨384 + n.val, by omega⟩ : Fin 640)) = we (ix2 n d) := by
  pointwise [wallOf]
  rw [dif_neg (by omega)]
  rw [dif_neg (by omega)]
  rw [dif_neg (by omega)]
  rw [dif_pos (by omega)]
  congr 2
  exact Fin.ext (by dsimp only; omega)

theorem wall_w (wk wv wq we ww : FVec Ideal S128x1024 .f32) (d : Fin 1024) (n : Fin 128) :
    wallOf wk wv wq we ww (ix2 d (⟨512 + n.val, by omega⟩ : Fin 640)) = ww (ix2 n d) := by
  pointwise [wallOf]
  rw [dif_neg (by omega)]
  rw [dif_neg (by omega)]
  rw [dif_neg (by omega)]
  rw [dif_neg (by omega)]
  congr 2
  exact Fin.ext (by dsimp only; omega)

/-- The block of the initial state. -/
theorem sBlk_at {a : Args} {c : Dev nD} (h : Holds m a c) (t : Fin cfg0.N) (b : Fin 16) (j i : Fin 128) :
    sBlk m c t (ix3 b j i) = (a.st 0 (bat t.val b) i j : EReal) := by
  have e : V m c main_v2 = (transpose S32x128x128 [0, 2, 1] (m ((c.tc : Thread nD τ).loc main_arg1)) transposes_S32x128x128_S32x128x128_0_2_1 : FVec Ideal S32x128x128 .f32) := by
    unfold V V0
    after_reads_simp
  have ht : t.val < 16 := Nat.lt_of_lt_of_eq t.isLt N_0
  have hb := b.isLt
  have hi : (win0_2.blk t).view.emb (ix3 b j i) = ix3 (bat t.val b) j i := by
    blk_ext [idx2, bat]
  unfold sBlk
  blk_simp [iblk]
  rw [hi, e]
  refine Eq.trans ?_ (h.s (bat t.val b) i j)
  generalize m ((c.tc : Thread nD τ).loc main_arg1) = A
  pointwise []

/-- The block of inputs. -/
theorem xBlk_at {a : Args} {c : Dev nD} (h : Holds m a c) (t : Fin cfg0.N) (n : Fin 64) (b : Fin 16) (d : Fin 1024) :
    xBlk m c t (ix3 n b d) = (a.x (64 * (t.val % 8) + n.val) (bat t.val b) d : EReal) := by
  have ht : t.val < 16 := Nat.lt_of_lt_of_eq t.isLt N_0
  have hb := b.isLt
  have hn := n.isLt
  have hi : (win0_0.blk t).view.emb (ix3 n b d) = ix3 (⟨64 * (t.val % 8) + n.val, by omega⟩ : Fin 512) (bat t.val b) d := by
    blk_ext [idx0, bat]
  unfold xBlk
  blk_simp [iblk]
  rw [hi, V_main_arg0]
  exact h.x _ _ _

/-- The weights. -/
theorem wBlk_at (c : Dev nD) (t : Fin cfg0.N) (d : Fin 1024) (n : Fin 640) :
    wBlk m c t (ix2 d n) = wallOf (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (ix2 d n) := by
  have hi : (win0_1.blk t).view.emb (ix2 d n) = ix2 d n := by
    blk_ext [idx1]
  unfold wBlk
  blk_simp [iblk]
  rw [hi, V_wall]

/-- A block of projections at an entry. -/
theorem pay2_at (x : Vec Ideal S64x16x1024 .f32) (w : Vec Ideal S1024x640 .f32) (t : Fin 64) (b : Fin 16) (n : Fin 640) :
    k0_pay2 x w (ix3 t b n) = ∑ d : Fin 1024, x (ix3 t b d) * w (ix2 d n) := by
  pointwise [k0_pay2]

/-- The projections of point `t`. -/
theorem proj_at {a : Args} {c : Dev nD} (h : Holds m a c) (t : Fin cfg0.N) : Projs a (64 * (t.val % 8)) (bat t.val) (proj m c t) := by
  have key : ∀ (W : Fin 128 → Fin 1024 → ℝ) (n : Fin 640) (j : Fin 128), (∀ d, wBlk m c t (ix2 d n) = (W j d : EReal)) →
      ∀ (s : Fin 64) (b : Fin 16), proj m c t (ix3 s b n) = (a.pr W (64 * (t.val % 8) + s.val) (bat t.val b) j : EReal) := fun W n j hW s b => by
    unfold proj
    rw [pay2_at]
    unfold Args.pr
    rw [coe_sum]
    simp only [xBlk_at m h t, hW, EReal.coe_mul]
  exact {
    k := fun s b j => key a.wk _ j (fun d => (wBlk_at m c t d _).trans ((wall_k _ _ _ _ _ d j).trans (h.wk j d))) s b
    v := fun s b j => key a.wv _ j (fun d => (wBlk_at m c t d _).trans ((wall_v _ _ _ _ _ d j).trans (h.wv j d))) s b
    q := fun s b j => key a.wq _ j (fun d => (wBlk_at m c t d _).trans ((wall_q _ _ _ _ _ d j).trans (h.wq j d))) s b
    e := fun s b j => key a.we _ j (fun d => (wBlk_at m c t d _).trans ((wall_e _ _ _ _ _ d j).trans (h.we j d))) s b
    w := fun s b j => key a.ww _ j (fun d => (wBlk_at m c t d _).trans ((wall_w _ _ _ _ _ d j).trans (h.ww j d))) s b }

/-- The state carried between the points. -/
theorem stAfter_at {a : Args} {c : Dev nD} (h : Holds m a c) : ∀ (n : ℕ) (hn : n < cfg0.N) (b : Fin 16) (j i : Fin 128),
    stAfter m c n hn (ix3 b j i) = (a.st (64 * (n % 8) + 64) (bat n b) i j : EReal) := fun n => by
  induction n with
  | zero => exact fun hn => stAt_at (proj_at m h ⟨0, hn⟩) _ (sBlk_at m h ⟨0, hn⟩) 64 (le_refl _)
  | succ n ih =>
    intro hn
    refine stAt_at (proj_at m h ⟨n + 1, hn⟩) _ (fun b j i => ?_) 64 (le_refl _)
    by_cases e : (n + 1) % 8 = 0
    · rw [if_pos e, sBlk_at m h ⟨n + 1, hn⟩]
      simp only [e]
    · rw [if_neg e, ih (Nat.lt_of_succ_lt hn)]
      rw [show 64 * ((n + 1) % 8) = 64 * (n % 8) + 64 by omega, show bat (n + 1) b = bat n b from Fin.ext (by unfold bat; dsimp only; omega)]

/-- The state a point starts from. -/
theorem stIn_at {a : Args} {c : Dev nD} (h : Holds m a c) (t : Fin cfg0.N) (b : Fin 16) (j i : Fin 128) :
    stIn m c t (ix3 b j i) = (a.st (64 * (t.val % 8)) (bat t.val b) i j : EReal) := by
  by_cases e : t.val % 8 = 0
  · rw [stIn_first m c t e, sBlk_at m h t, e]
  · rw [stIn_later m c t e, stAfter_at m h]
    rw [show 64 * ((t.val - 1) % 8) + 64 = 64 * (t.val % 8) by omega,
      show bat (t.val - 1) b = bat t.val b from Fin.ext (by unfold bat; dsimp only; omega)]

end Cert.KernelIdeal.Own
-- ==== Proof.Values.KerValue.lean ====
/-
  The kernel's results: the array of outputs holds the recurrence's outputs, and the final state, transposed by the host
  after the launch, holds the recurrence's state after the last time step.
-/
module

public import proofs.«01_k».proof.Proof.Values.KerBlocks

@[expose] public section

set_option maxRecDepth 16384

noncomputable section

namespace Cert.KernelIdeal.Own

open Cert.KernelIdeal.Gen Cert.Model
open Idealize.ShloMosaic Idealize.ShloMosaic.TcCoe Idealize.SL.Sem
open Idealize.ShloMosaic.Pipeline (Dat)

variable (m : (ref : Loc nD τ sig) → ref.ty.Contents (Elt Ideal)) (ρ : Dev nD → PrngReg)

/-- The array of outputs. -/
def outsOf (a : Args) : FVec Ideal S512x32x128 .f32 := fun y => ((a.out (y 0).val (y 1) (y 2) : ℝ) : EReal)

/-- The final state, and its transpose. -/
def stateOf (a : Args) : FVec Ideal S32x128x128 .f32 := fun y => ((a.st 512 (y 0) (y 1) (y 2) : ℝ) : EReal)
def stateTOf (a : Args) : FVec Ideal S32x128x128 .f32 := fun y => ((a.st 512 (y 0) (y 2) (y 1) : ℝ) : EReal)

/-- The array of outputs after the launch. -/
theorem final_outs {a : Args} {c : Dev nD} (h : Holds m a c) : (dats m 0 c).arrAt 3 cfg0.N = outsOf a := by
  refine (dats m 0 c).arrAt_eq_of_covers 3 _ (by decide +kernel) fun t hf y => ?_
  have ht : t.val < 16 := Nat.lt_of_lt_of_eq t.isLt N_0
  blk_simp
  rw [after0_3]
  idx_vars y
  have h0 := y0.isLt
  have h1 := y1.isLt
  have hi : (win0_3.blk t).view.emb (ix3 y0 y1 y2) = ix3 (⟨64 * (t.val % 8) + y0.val, by omega⟩ : Fin 512) (bat t.val y1) y2 := by
    blk_ext [idx3, bat]
  exact (outBlk_at (proj_at m h t) _ (stIn_at m h t) y0 y1 y2).trans (congrArg (outsOf a) hi).symm

/-- The array of transposed states after the launch. -/
theorem final_state {a : Args} {c : Dev nD} (h : Holds m a c) : (dats m 0 c).arrAt 4 cfg0.N = stateTOf a := by
  refine (dats m 0 c).arrAt_eq_of_covers 4 _ (by decide +kernel) fun t hf y => ?_
  have ht : t.val < 16 := Nat.lt_of_lt_of_eq t.isLt N_0
  have h7 := (flush0_4 t).mp hf
  blk_simp
  rw [after0_4]
  idx_vars y
  have h0 := y0.isLt
  have hi : (win0_4.blk t).view.emb (ix3 y0 y1 y2) = ix3 (bat t.val y0) y1 y2 := by
    blk_ext [idx4, bat]
  refine (stAfter_at m h t.val t.isLt y0 y1 y2).trans (Eq.trans ?_ (congrArg (stateTOf a) hi).symm)
  rw [h7]
  rfl

/-- The host's transpose of the final state. -/
theorem tail_state {a : Args} {c : Dev nD} (h : Holds m a c) :
    Pipeline.afterTail₀ cfgs (dats m) 0 (V0 m) [hostOps1] c main_v4 = stateOf a := by
  unfold Pipeline.afterTail₀
  after_reads_simp
  have e : Pipeline.withArrays (cfgs 0).spec c (V0 m c) (fun w => (dats m 0 c).arrAt w (cfgs 0).N) (Proc.tc.devRef main_v3_1) = stateTOf a :=
    (Pipeline.withArrays_arr (cfgs 0).spec (by decide) c (V0 m c) _ 4).trans (final_state m h)
  rw [e]
  funext y
  idx_vars y
  pointwise []
  rfl

/-- The kernel's run with its results. -/
theorem run_values (a : Dev nD → Args) (h : ∀ c, Holds m (a c) c) :
    θ_run defs (onTc (τ := τ) (main (F := Ideal))) ⟨m, fun _ => 0, ρ⟩ (fun r => ∀ c : Dev nD,
      r.2.mem ((c.tc : Thread nD τ).loc main_v3_0) = outsOf (a c)
      ∧ r.2.mem ((c.tc : Thread nD τ).loc main_v4) = stateOf (a c)) :=
  (θ_run defs _ _).mono (fun _ hr c => ⟨((hr c).1 3).trans (final_outs m (h c)),
    ((hr c).2 main_v4 (Pipeline.mem_restRefs_of main_v4 (by decide) (by decide))).trans (tail_state m (h c))⟩) (run_main m ρ)

end Cert.KernelIdeal.Own
-- ==== Proof.Values.RefStep.lean ====
/-
  One trip of the reference's loop, read at an entry: the new state and the new row of outputs, as the ideal operations
  on the entries of the carried arrays.
-/
module

public import proofs.«01_k».proof.Proof.Gen.ReferenceIdeal.Run
public import proofs.«01_k».proof.Proof.Values.Model
public import Idealize.ShloMosaic.Lib.DynamicIndex

@[expose] public section

set_option maxRecDepth 16384

noncomputable section

namespace Cert.ReferenceIdeal.Own

open Cert.ReferenceIdeal.Gen Cert.ReferenceIdeal.Value
open Idealize.ShloMosaic Idealize.ShloMosaic.TcCoe

/-- Row `n` of a stack of matrices. -/
def rowOf (A : Vec Ideal S512x32x128 .f32) (n : ℕ) : Vec Ideal S32x128 .f32 :=
  fun y => A (ix3 (⟨n % 512, Nat.mod_lt _ (by decide)⟩ : Fin 512) (y 0) (y 1))

/-- Where the loop's blocks start: at the counter on the time axis, at zero on the others. -/
abbrev startsOf (cnt : Vec Ideal S_ .i32) : Fin 3 → Int := fun k =>
  (((![cnt, constantI S_ 32 0#32, constantI S_ 32 0#32] : Fin 3 → (⟨S_, .i32⟩ : BufTy).Contents (Elt Ideal))) k (Shape.Idx.first h_S_)).toInt

/-- The starts at a counter in range. -/
theorem starts_eq (n : ℕ) (hn : n < 512) (a : Fin 3) :
    startsOf (fun _ => BitVec.ofNat 32 n) a = ((![n, 0, 0] : Fin 3 → ℕ) a : Int) := by
  match a with
  | ⟨0, _⟩ => exact toInt_ofNat_of_lt (by omega)
  | ⟨1, _⟩ => exact toInt_ofNat_of_lt (k := 0) (by omega)
  | ⟨2, _⟩ => exact toInt_ofNat_of_lt (k := 0) (by omega)

/-- The matrix the loop takes out of a stack at step `n`. -/
theorem take_row (A : Vec Ideal S512x32x128 .f32) (n : ℕ) (hn : n < 512) :
    shapeCast S32x128 (Host.dynamicSlice S1x32x128 A (startsOf fun _ => BitVec.ofNat 32 n) sliceFits_S512x32x128_S1x32x128)
      shapeCasts_S1x32x128_S32x128 = rowOf A n := by
  funext y
  idx_vars y
  have e0 := Host.clampedStart_of_le (s := S512x32x128) (t := S1x32x128) rfl (startsOf fun _ => BitVec.ofNat 32 n) 0 n
    (starts_eq n hn 0) (by show n + 1 ≤ 512; omega)
  have e1 := Host.clampedStart_of_le (s := S512x32x128) (t := S1x32x128) rfl (startsOf fun _ => BitVec.ofNat 32 n) 1 0
    (starts_eq n hn 1) (by show 0 + 32 ≤ 32; omega)
  have e2 := Host.clampedStart_of_le (s := S512x32x128) (t := S1x32x128) rfl (startsOf fun _ => BitVec.ofNat 32 n) 2 0
    (starts_eq n hn 2) (by show 0 + 128 ≤ 128; omega)
  pointwise []
  unfold rowOf
  simp only [e0, e1, e2, zero_add, Nat.mod_eq_of_lt hn]
  rfl

/-- The stack the loop leaves after it puts a matrix in at step `n`. -/
theorem put_row (A : Vec Ideal S512x32x128 .f32) (U : Vec Ideal S1x32x128 .f32) (n : ℕ) (hn : n < 512) (t : Fin 512) (b : Fin 32) (j : Fin 128) :
    Host.dynamicUpdateSlice A U (startsOf fun _ => BitVec.ofNat 32 n) updateFits_S512x32x128_S1x32x128 (ix3 t b j)
      = if t.val = n then U (ix3 0 b j) else A (ix3 t b j) := by
  have e0 := Host.clampedStart_of_le (s := S512x32x128) (t := S1x32x128) rfl (startsOf fun _ => BitVec.ofNat 32 n) 0 n
    (starts_eq n hn 0) (by show n + 1 ≤ 512; omega)
  have e1 := Host.clampedStart_of_le (s := S512x32x128) (t := S1x32x128) rfl (startsOf fun _ => BitVec.ofNat 32 n) 1 0
    (starts_eq n hn 1) (by show 0 + 32 ≤ 32; omega)
  have e2 := Host.clampedStart_of_le (s := S512x32x128) (t := S1x32x128) rfl (startsOf fun _ => BitVec.ofNat 32 n) 2 0
    (starts_eq n hn 2) (by show 0 + 128 ≤ 128; omega)
  pointwise []
  simp only [e0, e1, e2]
  have ht := t.isLt
  split_ifs with h h' h'
  · obtain ⟨⟨_, _⟩, _⟩ := h
    refine congrArg U ?_
    congr 1
    exact Fin.ext (by show t.val - n = 0; omega)
  · omega
  · exact absurd ⟨⟨by omega, by omega⟩, Nat.zero_le _, Nat.zero_le _⟩ h
  · rfl

/-- The loop's key row is that of the counter. -/
theorem v7_eq (V0 : Valuation τ sig (Elt Ideal)) (n : ℕ) (hn : n < 512) (h : V0 (Proc.devRef .tc main_v6_5) = fun _ => BitVec.ofNat 32 n) :
    res_main_while0b_v7 V0 = rowOf (V0 (Proc.devRef .tc main_v6_0)) n := by
  unfold res_main_while0b_v7
  rw [h]
  exact take_row _ n hn

/-- The new state from the old one and the rows of a step. -/
def newState (S : FVec Ideal S32x128x128 .f32) (k v e w : FVec Ideal S32x128 .f32) : FVec Ideal S32x128x128 .f32 :=
  Host.tanh (F := Ideal) (addf (mulf S (subf (broadcastInDim S32x128x128 ![] bcast_S_S32x128x128 (constant S_ .f32 0x3F800000#32))
      (mulf (broadcastInDim S32x128x128 ![0, 1, 2] bcast_S32x128x1_S32x128x128_0_1_2 (broadcastInDim S32x128x1 ![0, 1] bcast_S32x128_S32x128x1_0_1 e))
        (broadcastInDim S32x128x128 ![0, 1, 2] bcast_S32x1x128_S32x128x128_0_1_2 (broadcastInDim S32x1x128 ![0, 2] bcast_S32x128_S32x1x128_0_2
          (Host.divf k (broadcastInDim S32x128 ![0, 1] bcast_S32x1_S32x128_0_1 (addf (Host.sqrt (broadcastInDim S32x1 ![0] bcast_S32_S32x1_0
            (Host.reduceAdd (mulf k k) (constant S_ .f32 0x00000000#32) reducesTo_S32x128_S32_d1 h_S_))) (broadcastInDim S32x1 ![] bcast_S_S32x1 (constant S_ .f32 0x358637BD#32))))))))))
    (mulf (broadcastInDim S32x128x128 ![0, 1, 2] bcast_S32x128x1_S32x128x128_0_1_2 (broadcastInDim S32x128x1 ![0, 1] bcast_S32x128_S32x128x1_0_1 (mulf w v)))
      (broadcastInDim S32x128x128 ![0, 1, 2] bcast_S32x1x128_S32x128x128_0_1_2 (broadcastInDim S32x1x128 ![0, 2] bcast_S32x128_S32x1x128_0_2
          (Host.divf k (broadcastInDim S32x128 ![0, 1] bcast_S32x1_S32x128_0_1 (addf (Host.sqrt (broadcastInDim S32x1 ![0] bcast_S32_S32x1_0
            (Host.reduceAdd (mulf k k) (constant S_ .f32 0x00000000#32) reducesTo_S32x128_S32_d1 h_S_))) (broadcastInDim S32x1 ![] bcast_S_S32x1 (constant S_ .f32 0x358637BD#32)))))))))

/-- The loop's new state is that of the rows at the counter. -/
theorem v32_eq (V0 : Valuation τ sig (Elt Ideal)) (n : ℕ) (hn : n < 512) (h : V0 (Proc.devRef .tc main_v6_5) = fun _ => BitVec.ofNat 32 n) :
    res_main_while0b_v32 V0 = newState (V0 (Proc.devRef .tc main_v6_6)) (rowOf (V0 (Proc.devRef .tc main_v6_0)) n) (rowOf (V0 (Proc.devRef .tc main_v6_1)) n)
      (rowOf (V0 (Proc.devRef .tc main_v6_3)) n) (rowOf (V0 (Proc.devRef .tc main_v6_4)) n) := by
  unfold res_main_while0b_v32 res_main_while0b_v16
  rw [v7_eq V0 n hn h, h]
  rw [← take_row (V0 (Proc.devRef .tc main_v6_3)) n hn, ← take_row (V0 (Proc.devRef .tc main_v6_4)) n hn, ← take_row (V0 (Proc.devRef .tc main_v6_1)) n hn]
  rfl

/-- The new state at an entry. -/
theorem newState_at (S : Vec Ideal S32x128x128 .f32) (k v e w : Vec Ideal S32x128 .f32) (b : Fin 32) (i j : Fin 128) :
    newState S k v e w (ix3 b i j) = Ideal.tanh (S (ix3 b i j) * (1 - e (ix2 b i) * Ideal.div (k (ix2 b j)) (Ideal.sqrt (∑ x, k (ix2 b x) * k (ix2 b x)) + Ideal.ofBits .f32 0x358637BD#32))
        + w (ix2 b i) * v (ix2 b i) * Ideal.div (k (ix2 b j)) (Ideal.sqrt (∑ x, k (ix2 b x) * k (ix2 b x)) + Ideal.ofBits .f32 0x358637BD#32)) := by
  pointwise [newState]

/-- The loop's read-out is the new state times the query row. -/
theorem v33_at (V0 : Valuation τ sig (Elt Ideal)) (n : ℕ) (hn : n < 512) (h : V0 (Proc.devRef .tc main_v6_5) = fun _ => BitVec.ofNat 32 n) (b : Fin 32) (i : Fin 128) :
    res_main_while0b_v33 V0 (ix2 b i)
      = ∑ x : Fin 128, (show Vec Ideal S32x128x128 .f32 from res_main_while0b_v32 V0) (ix3 b i x) * rowOf (V0 (Proc.devRef .tc main_v6_2)) n (ix2 b x) := by
  unfold res_main_while0b_v33
  rw [h, ← take_row (V0 (Proc.devRef .tc main_v6_2)) n hn]
  generalize (shapeCast S32x128 (Host.dynamicSlice S1x32x128 (V0 (Proc.devRef .tc main_v6_2)) (startsOf fun _ => BitVec.ofNat 32 n) sliceFits_S512x32x128_S1x32x128)
      shapeCasts_S1x32x128_S32x128 : Vec Ideal S32x128 .f32) = Q
  pointwise []

/-- The stack of outputs after a trip, at an entry. -/
theorem v67_at (V0 : Valuation τ sig (Elt Ideal)) (n : ℕ) (hn : n < 512) (h : V0 (Proc.devRef .tc main_v6_5) = fun _ => BitVec.ofNat 32 n) (t : Fin 512) (b : Fin 32) (j : Fin 128) :
    step_main_v6_7 V0 (ix3 t b j)
      = if t.val = n then (show Vec Ideal S32x128 .f32 from res_main_while0b_v33 V0) (ix2 b j)
          * ((show Vec Ideal S32x128 .f32 from res_main_while0b_v33 V0) (ix2 b j) * Ideal.div 1 (1 + Ideal.exp (-(show Vec Ideal S32x128 .f32 from res_main_while0b_v33 V0) (ix2 b j))))
        else (show Vec Ideal S512x32x128 .f32 from V0 (Proc.devRef .tc main_v6_7)) (ix3 t b j) := by
  unfold step_main_v6_7
  rw [h]
  refine (put_row (V0 (Proc.devRef .tc main_v6_7)) _ n hn t b j).trans ?_
  pointwise []

end Cert.ReferenceIdeal.Own
-- ==== Proof.Values.RefValue.lean ====
/-
  The reference's results: after `n` trips of its loop the carried buffers hold the first `n` steps of the recurrence on
  the arguments' real entries.
-/
module

public import proofs.«01_k».proof.Proof.Values.RefStep

@[expose] public section

set_option maxRecDepth 16384

noncomputable section

namespace Cert.ReferenceIdeal.Own

open Cert.ReferenceIdeal.Gen Cert.ReferenceIdeal.Value Cert.Model
open Idealize.ShloMosaic Idealize.ShloMosaic.TcCoe Idealize.SL.Sem
open Idealize.ShloMosaic.StableHlo

/-- What the loop carries after `n` trips. -/
structure Carried (a : Args) (n : ℕ) (V : Valuation τ sig (Elt Ideal)) : Prop where
  k : ∀ (t : Fin 512) (b : Fin 32) (j : Fin 128), (V (Proc.devRef .tc main_v6_0) (ix3 t b j) : EReal) = (a.pr a.wk t.val b j : EReal)
  v : ∀ (t : Fin 512) (b : Fin 32) (j : Fin 128), (V (Proc.devRef .tc main_v6_1) (ix3 t b j) : EReal) = (a.pr a.wv t.val b j : EReal)
  q : ∀ (t : Fin 512) (b : Fin 32) (j : Fin 128), (V (Proc.devRef .tc main_v6_2) (ix3 t b j) : EReal) = (a.pr a.wq t.val b j : EReal)
  e : ∀ (t : Fin 512) (b : Fin 32) (j : Fin 128), (V (Proc.devRef .tc main_v6_3) (ix3 t b j) : EReal) = (a.pr a.we t.val b j : EReal)
  w : ∀ (t : Fin 512) (b : Fin 32) (j : Fin 128), (V (Proc.devRef .tc main_v6_4) (ix3 t b j) : EReal) = (a.pr a.ww t.val b j : EReal)
  count : V (Proc.devRef .tc main_v6_5) = fun _ => BitVec.ofNat 32 n
  state : ∀ (b : Fin 32) (i j : Fin 128), (V (Proc.devRef .tc main_v6_6) (ix3 b i j) : EReal) = (a.st n b i j : EReal)
  outs : ∀ (t : Fin 512) (b : Fin 32) (i : Fin 128), t.val < n → (V (Proc.devRef .tc main_v6_7) (ix3 t b i) : EReal) = (a.out t.val b i : EReal)

/-- Row `n` of a stack whose entries are known. -/
theorem rowOf_at (A : Vec Ideal S512x32x128 .f32) (f : ℕ → Fin 32 → Fin 128 → ℝ)
    (h : ∀ (t : Fin 512) (b : Fin 32) (j : Fin 128), A (ix3 t b j) = (f t.val b j : EReal)) (n : ℕ) (hn : n < 512) (b : Fin 32) (j : Fin 128) :
    rowOf A n (ix2 b j) = (f n b j : EReal) := by
  have e := h ⟨n % 512, Nat.mod_lt _ (by decide)⟩ b j
  simp only [Nat.mod_eq_of_lt hn] at e
  rw [← e]
  unfold rowOf
  simp only [Nat.mod_eq_of_lt hn]
  rfl

/-- The new state of a trip. -/
theorem v32_real {a : Args} {n : ℕ} {V : Valuation τ sig (Elt Ideal)} (h : Carried a n V) (hn : n < 512) (b : Fin 32) (i j : Fin 128) :
    (res_main_while0b_v32 V (ix3 b i j) : EReal) = (a.st (n + 1) b i j : EReal) := by
  rw [v32_eq V n hn h.count]
  refine (newState_at _ _ _ _ _ b i j).trans ?_
  simp only [rowOf_at _ _ h.k n hn, rowOf_at _ _ h.v n hn, rowOf_at _ _ h.e n hn, rowOf_at _ _ h.w n hn]
  rw [h.state]
  exact step_reference (a.st n b) (a.pr a.wk n b) (a.pr a.wv n b) (a.pr a.we n b) (a.pr a.ww n b) i j

/-- The read-out of a trip. -/
theorem v33_real {a : Args} {n : ℕ} {V : Valuation τ sig (Elt Ideal)} (h : Carried a n V) (hn : n < 512) (b : Fin 32) (i : Fin 128) :
    (res_main_while0b_v33 V (ix2 b i) : EReal) = (Model.read (a.st (n + 1) b) (a.pr a.wq n b) i : EReal) := by
  have key : ∀ (S : Vec Ideal S32x128x128 .f32) (Q : Vec Ideal S32x128 .f32),
      (∀ x, S (ix3 b i x) = (a.st (n + 1) b i x : EReal)) → (∀ x, Q (ix2 b x) = (a.pr a.wq n b x : EReal)) →
      (∑ x : Fin 128, S (ix3 b i x) * Q (ix2 b x)) = (Model.read (a.st (n + 1) b) (a.pr a.wq n b) i : EReal) := fun S Q hS hQ => by
    unfold Model.read
    rw [coe_sum]
    refine Finset.sum_congr rfl fun x _ => ?_
    rw [EReal.coe_mul, hS, hQ]
  exact (v33_at V n hn h.count b i).trans (key _ _ (fun x => v32_real h hn b i x) (fun x => rowOf_at _ _ h.q n hn b x))

/-- A trip takes what is carried one step further. -/
theorem carried_step {a : Args} {n : ℕ} {V : Valuation τ sig (Elt Ideal)} (h : Carried a n V) (hn : n < 512) : Carried a (n + 1) (STEP V) where
  k := by rw [STEP_main_v6_0]; exact h.k
  v := by rw [STEP_main_v6_1]; exact h.v
  q := by rw [STEP_main_v6_2]; exact h.q
  e := by rw [STEP_main_v6_3]; exact h.e
  w := by rw [STEP_main_v6_4]; exact h.w
  count := by
    rw [STEP_main_v6_5]
    unfold step_main_v6_5
    rw [h.count]
    funext y
    show BitVec.ofNat 32 n + 1#32 = _
    exact (BitVec.ofNat_add n 1).symm
  state := fun b i j => by
    rw [STEP_main_v6_6]
    exact v32_real h hn b i j
  outs := fun t b i ht => by
    rw [STEP_main_v6_7]
    refine (v67_at V n hn h.count t b i).trans ?_
    by_cases e : t.val = n
    · rw [if_pos e, e]
      have r : (show Vec Ideal S32x128 .f32 from res_main_while0b_v33 V) (ix2 b i) = (Model.read (a.st (n + 1) b) (a.pr a.wq n b) i : EReal) := v33_real h hn b i
      rw [r]
      exact act_reference _
    · rw [if_neg e]
      exact h.outs t b i (by omega)

/-- After `n` trips. -/
theorem carried_iterate {a : Args} {V : Valuation τ sig (Elt Ideal)} (h : Carried a 0 V) : ∀ n ≤ 512, Carried a n (STEP^[n] V)
  | 0, _ => h
  | n + 1, hn => by
    rw [Function.iterate_succ_apply']
    exact carried_step (carried_iterate h n (by omega)) (by omega)

variable (m : (ref : Loc nD τ sig) → ref.ty.Contents (Elt Ideal))

/-- The arguments of device `c` have the given real entries. -/
structure Holds (a : Args) (c : Dev nD) : Prop where
  x : ∀ (t : Fin 512) (b : Fin 32) (d : Fin 1024), (m ((c.tc : Thread nD τ).loc main_arg0) (ix3 t b d) : EReal) = (a.x t.val b d : EReal)
  s : ∀ (b : Fin 32) (i j : Fin 128), (m ((c.tc : Thread nD τ).loc main_arg1) (ix3 b i j) : EReal) = (a.s b i j : EReal)
  wk : ∀ (n : Fin 128) (d : Fin 1024), (m ((c.tc : Thread nD τ).loc main_arg2) (ix2 n d) : EReal) = (a.wk n d : EReal)
  wv : ∀ (n : Fin 128) (d : Fin 1024), (m ((c.tc : Thread nD τ).loc main_arg3) (ix2 n d) : EReal) = (a.wv n d : EReal)
  wq : ∀ (n : Fin 128) (d : Fin 1024), (m ((c.tc : Thread nD τ).loc main_arg4) (ix2 n d) : EReal) = (a.wq n d : EReal)
  we : ∀ (n : Fin 128) (d : Fin 1024), (m ((c.tc : Thread nD τ).loc main_arg5) (ix2 n d) : EReal) = (a.we n d : EReal)
  ww : ∀ (n : Fin 128) (d : Fin 1024), (m ((c.tc : Thread nD τ).loc main_arg6) (ix2 n d) : EReal) = (a.ww n d : EReal)

/-- A projection the program computes. -/
def projOf (X : FVec Ideal S512x32x1024 .f32) (W : FVec Ideal S128x1024 .f32) : FVec Ideal S512x32x128 .f32 :=
  Host.dotGeneral dot_S512x32x1024_S128x1024_S512x32x128_2_1_01_0_n_n none X W

/-- A projection the program computes, at an entry. -/
theorem proj_at (X : FVec Ideal S512x32x1024 .f32) (W : FVec Ideal S128x1024 .f32) (a : Args) (w : Fin 128 → Fin 1024 → ℝ)
    (hx : ∀ (t : Fin 512) (b : Fin 32) (d : Fin 1024), X (ix3 t b d) = (a.x t.val b d : EReal))
    (hw : ∀ (n : Fin 128) (d : Fin 1024), W (ix2 n d) = (w n d : EReal)) (t : Fin 512) (b : Fin 32) (n : Fin 128) :
    projOf X W (ix3 t b n) = (a.pr w t.val b n : EReal) := by
  pointwise [projOf]
  simp only [hx, hw]
  unfold Args.pr
  rw [coe_sum]
  simp only [EReal.coe_mul]

/-- What the loop starts from. -/
theorem carried_entry {a : Args} {c : Dev nD} (h : Holds m a c) : Carried a 0 (entryContents preI m c) where
  k := by
    have e : entryContents preI m c (Proc.devRef .tc main_v6_0) = projOf (m ((c.tc : Thread nD τ).loc main_arg0)) (m ((c.tc : Thread nD τ).loc main_arg2)) := by
      simp only [entryContents, afterL_cons, afterL_nil]
      after_reads_simp
      rfl
    rw [e]
    exact proj_at _ _ a a.wk h.x h.wk
  v := by
    have e : entryContents preI m c (Proc.devRef .tc main_v6_1) = projOf (m ((c.tc : Thread nD τ).loc main_arg0)) (m ((c.tc : Thread nD τ).loc main_arg3)) := by
      simp only [entryContents, afterL_cons, afterL_nil]
      after_reads_simp
      rfl
    rw [e]
    exact proj_at _ _ a a.wv h.x h.wv
  q := by
    have e : entryContents preI m c (Proc.devRef .tc main_v6_2) = projOf (m ((c.tc : Thread nD τ).loc main_arg0)) (m ((c.tc : Thread nD τ).loc main_arg4)) := by
      simp only [entryContents, afterL_cons, afterL_nil]
      after_reads_simp
      rfl
    rw [e]
    exact proj_at _ _ a a.wq h.x h.wq
  e := by
    have e : entryContents preI m c (Proc.devRef .tc main_v6_3) = projOf (m ((c.tc : Thread nD τ).loc main_arg0)) (m ((c.tc : Thread nD τ).loc main_arg5)) := by
      simp only [entryContents, afterL_cons, afterL_nil]
      after_reads_simp
      rfl
    rw [e]
    exact proj_at _ _ a a.we h.x h.we
  w := by
    have e : entryContents preI m c (Proc.devRef .tc main_v6_4) = projOf (m ((c.tc : Thread nD τ).loc main_arg0)) (m ((c.tc : Thread nD τ).loc main_arg6)) := by
      simp only [entryContents, afterL_cons, afterL_nil]
      after_reads_simp
      rfl
    rw [e]
    exact proj_at _ _ a a.ww h.x h.ww
  count := ctr_entry m c
  state := fun b i j => by
    have e : entryContents preI m c (Proc.devRef .tc main_v6_6) = (m ((c.tc : Thread nD τ).loc main_arg1) : FVec Ideal S32x128x128 .f32) := by
      simp only [entryContents, afterL_cons, afterL_nil]
      after_reads_simp
      rfl
    rw [e]
    exact h.s b i j
  outs := fun _ _ _ ht => absurd ht (by omega)

end Cert.ReferenceIdeal.Own
-- ==== Proof.Values.Equal.lean ====
/-
  The kernel and the reference end with equal results: from finite arguments both results are the recurrence's on the
  arguments' real entries.
-/
module

public import proofs.«01_k».proof.Proof.Values.Finite
public import proofs.«01_k».proof.Proof.Values.KerValue
public import proofs.«01_k».proof.Proof.Values.RefValue
public import proofs.«01_k».proof.Proof.Gen.ReferenceIdeal

@[expose] public section

set_option maxRecDepth 16384

noncomputable section

namespace Cert.Proof

open Cert.Model
open Idealize.ShloMosaic Idealize.ShloMosaic.TcCoe Idealize.SL.Sem

/-- The real entries of the arguments of a memory. -/
def argsOf (m : (ℓ : Loc KernelIdeal.nD KernelIdeal.τ KernelIdeal.sig) → Buf (Elt Ideal) ℓ) (c : Dev KernelIdeal.nD) : Args where
  x := fun t b d => (m ((c.tc : Thread KernelIdeal.nD KernelIdeal.τ).loc KernelIdeal.main_arg0) (ix3 (⟨t % 512, Nat.mod_lt _ (by decide)⟩ : Fin 512) b d) : EReal).toReal
  s := fun b i j => (m ((c.tc : Thread KernelIdeal.nD KernelIdeal.τ).loc KernelIdeal.main_arg1) (ix3 b i j) : EReal).toReal
  wk := fun n d => (m ((c.tc : Thread KernelIdeal.nD KernelIdeal.τ).loc KernelIdeal.main_arg2) (ix2 n d) : EReal).toReal
  wv := fun n d => (m ((c.tc : Thread KernelIdeal.nD KernelIdeal.τ).loc KernelIdeal.main_arg3) (ix2 n d) : EReal).toReal
  wq := fun n d => (m ((c.tc : Thread KernelIdeal.nD KernelIdeal.τ).loc KernelIdeal.main_arg4) (ix2 n d) : EReal).toReal
  we := fun n d => (m ((c.tc : Thread KernelIdeal.nD KernelIdeal.τ).loc KernelIdeal.main_arg5) (ix2 n d) : EReal).toReal
  ww := fun n d => (m ((c.tc : Thread KernelIdeal.nD KernelIdeal.τ).loc KernelIdeal.main_arg6) (ix2 n d) : EReal).toReal

/-- Finite arguments hold real entries. -/
theorem holds_of_finite (m : (ℓ : Loc KernelIdeal.nD KernelIdeal.τ KernelIdeal.sig) → Buf (Elt Ideal) ℓ)
    (h : haveI := Pre_all_finite.Own.facts; Pre_KernelIdeal_all_finite m) (c : Dev KernelIdeal.nD) : KernelIdeal.Own.Holds m (argsOf m c) c := by
  haveI := Pre_all_finite.Own.facts
  obtain ⟨h0, h1, h2, h3, h4, h5, h6⟩ := h c
  exact {
    x := fun t b d => by
      have e := Pre_all_finite.Own.real_x _ h0 t b d
      refine e.trans ?_
      unfold argsOf
      simp only [Nat.mod_eq_of_lt t.isLt]
    s := Pre_all_finite.Own.real_s _ h1
    wk := Pre_all_finite.Own.real_w _ h2
    wv := Pre_all_finite.Own.real_w _ h3
    wq := Pre_all_finite.Own.real_w _ h4
    we := Pre_all_finite.Own.real_w _ h5
    ww := Pre_all_finite.Own.real_w _ h6 }

/-- From finite arguments the kernel and the reference end with equal results. -/
theorem equal : haveI := Pre_all_finite.Own.facts; Cert.algebraic_KernelIdeal_ReferenceIdeal_pre_all_finite := by
  intro m g m' g' hpre hargs
  have hk := holds_of_finite m hpre
  have hr : ∀ c, ReferenceIdeal.Own.Holds m' (argsOf m c) c := fun c => by
    obtain ⟨a0, a1, a2, a3, a4, a5, a6⟩ := hargs c
    exact { x := by rw [a0]; exact (hk c).x
            s := by rw [a1]; exact (hk c).s
            wk := by rw [a2]; exact (hk c).wk
            wv := by rw [a3]; exact (hk c).wv
            wq := by rw [a4]; exact (hk c).wq
            we := by rw [a5]; exact (hk c).we
            ww := by rw [a6]; exact (hk c).ww }
  refine ⟨fun c => KernelIdeal.Own.outsOf (argsOf m c), fun c => KernelIdeal.Own.stateOf (argsOf m c), ?_, ?_⟩
  · refine (θ_run _ _ _).mono (fun r hh c => ⟨(hh.1 c).1, (hh.1 c).2, hh.2 c⟩)
      (θ_run_and (KernelIdeal.Own.run_values m g (argsOf m) hk) (KernelIdeal.Own.unchanged m g))
  · refine (θ_run _ _ _).mono (fun r hh c => ⟨(hh c).1.trans ?_, (hh c).2.1.trans ?_, (hh c).2.2⟩) (ReferenceIdeal.Value.run m' g')
    · have e := ReferenceIdeal.Own.carried_iterate (ReferenceIdeal.Own.carried_entry m' (hr c)) 512 (le_refl _)
      funext y
      idx_vars y
      exact e.outs y0 y1 y2 y0.isLt
    · have e := ReferenceIdeal.Own.carried_iterate (ReferenceIdeal.Own.carried_entry m' (hr c)) 512 (le_refl _)
      funext y
      idx_vars y
      exact e.state y0 y1 y2

end Cert.Proof
-- ==== Proof.lean ====
/- The frames of the kernel, of its reading at the ideal numbers, and of the reference; and the equality of their results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.Values.Equal
public import Idealize.ShloMosaic.Adequacy
public import Idealize.ShloMosaic.Init

@[expose] public section

noncomputable section

namespace Cert.Proof

open Idealize.ShloMosaic Idealize.SL.Sem

/-- The reference runs, leaves its arguments unchanged, and has no semaphores. -/
theorem frame_r : Cert.quiescent_ReferenceIdeal := fun m ρ _ =>
  (θ_run _ _ _).mono (fun r h => ⟨fun c => (h c).2.2, Idealize.ShloMosaic.sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts, Cert.Pre_all_finite.Own.facts,
  fun m ρ _ => Cert.Kernel.Own.frame m ρ, fun m ρ _ => Cert.KernelIdeal.Own.frame m ρ, fun m ρ _ => Cert.KernelIdeal.Own.frame m ρ,
  frame_r, fun m ρ _ => frame_r m ρ trivial, trivial, equal⟩

end Cert.Proof

end
